-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S4x128x256 : Shape := ⟨3, ![4, 128, 256]⟩
abbrev S4x256x256 : Shape := ⟨3, ![4, 256, 256]⟩
abbrev S_ : Shape := ⟨0, ![]⟩

class Facts : Prop where
  bcast_S_S4x128x256 : S_.BroadcastsInDim S4x128x256 (![] : Fin 0 → Fin S4x128x256.rank)

variable [Facts]

def fn {F : FTy → Type} [FloatOps F] (main_arg0 : FVec F S4x128x256 .f32) (main_arg1 : FVec F S4x256x256 .f32) : IVec S4x128x256 1 :=
  let main_v0 : FVec F S4x128x256 .f32 := Host.absf main_arg0
  let main_cst : FVec F S_ .f32 := constant S_ .f32 0x7F800000#32
  let main_v1 : FVec F S4x128x256 .f32 := broadcastInDim S4x128x256 ![] bcast_S_S4x128x256 main_cst
  let main_v2 : IVec S4x128x256 1 := cmpf .olt main_v0 main_v1
  main_v2
-- ==== Kernel.lean ====
abbrev S4x128x256 : Shape := ⟨3, ![4, 128, 256]⟩
abbrev S4x256x256 : Shape := ⟨3, ![4, 256, 256]⟩
abbrev S4x128x16 : Shape := ⟨3, ![4, 128, 16]⟩
abbrev S1x128x256 : Shape := ⟨3, ![1, 128, 256]⟩
abbrev S1x256x256 : Shape := ⟨3, ![1, 256, 256]⟩
abbrev S1x128x16 : Shape := ⟨3, ![1, 128, 16]⟩
abbrev S16x256x8 : Shape := ⟨3, ![16, 256, 8]⟩
abbrev S256x256 : Shape := ⟨2, ![256, 256]⟩
abbrev S128x256 : Shape := ⟨2, ![128, 256]⟩
abbrev S256 : Shape := ⟨1, ![256]⟩
abbrev S1x256 : Shape := ⟨2, ![1, 256]⟩
abbrev S8x256 : Shape := ⟨2, ![8, 256]⟩
abbrev S256x8 : Shape := ⟨2, ![256, 8]⟩
abbrev S1x256x8 : Shape := ⟨3, ![1, 256, 8]⟩
abbrev S64x256 : Shape := ⟨2, ![64, 256]⟩
abbrev S1x8x256 : Shape := ⟨3, ![1, 8, 256]⟩
abbrev S1x64x8 : Shape := ⟨3, ![1, 64, 8]⟩
abbrev S64x8 : Shape := ⟨2, ![64, 8]⟩
abbrev S64x1 : Shape := ⟨2, ![64, 1]⟩
abbrev S64x128 : Shape := ⟨2, ![64, 128]⟩
abbrev S1x8x128 : Shape := ⟨3, ![1, 8, 128]⟩
abbrev S8x128 : Shape := ⟨2, ![8, 128]⟩
abbrev S1x128 : Shape := ⟨2, ![1, 128]⟩
abbrev S128x128 : Shape := ⟨2, ![128, 128]⟩
abbrev S256x1 : Shape := ⟨2, ![256, 1]⟩
abbrev S1x16 : Shape := ⟨2, ![1, 16]⟩
abbrev S256x16 : Shape := ⟨2, ![256, 16]⟩
abbrev S16 : Shape := ⟨1, ![16]⟩
abbrev S128x16 : Shape := ⟨2, ![128, 16]⟩

abbrev nBuf : Space → Nat
  | .hbm => 3
  | .vmem => 8
  | .smem => 0
  | _ => 0

abbrev bufTy : (tb : Table) → Fin (tcTables nBuf tb) → BufTy
  | .hbm, ⟨0, _⟩ => ⟨S4x128x256, .f32⟩
  | .hbm, ⟨1, _⟩ => ⟨S4x256x256, .f32⟩
  | .hbm, ⟨2, _⟩ => ⟨S4x128x16, .f32⟩
  | .local _ .vmem, ⟨0, _⟩ => ⟨S1x128x256, .f32⟩
  | .local _ .vmem, ⟨1, _⟩ => ⟨S1x128x256, .f32⟩
  | .local _ .vmem, ⟨2, _⟩ => ⟨S1x256x256, .f32⟩
  | .local _ .vmem, ⟨3, _⟩ => ⟨S1x256x256, .f32⟩
  | .local _ .vmem, ⟨4, _⟩ => ⟨S1x128x16, .f32⟩
  | .local _ .vmem, ⟨5, _⟩ => ⟨S1x128x16, .f32⟩
  | .local _ .vmem, ⟨6, _⟩ => ⟨S16x256x8, .f32⟩
  | .local _ .vmem, ⟨7, _⟩ => ⟨S256x256, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c2_i32 : BitVec 32 := 2#32
  let v88 : BitVec 32 := Scalar.addi c0_i32 c2_i32
  let c1_i32 : BitVec 32 := 1#32
  ⟨c0_i32, v88, c1_i32⟩
def k0_off1 (k0_t1 : Fin k0_t1_loop.trips) : Fin 3 → Nat :=
  let c0_67 : Index := 0#32
  let c0_i32 : BitVec 32 := 0#32
  let c1_i32 : BitVec 32 := 1#32
  let arg6 : BitVec 32 := Scf.iv c0_i32 c1_i32 k0_t1
  let c64_i32 : BitVec 32 := 64#32
  let v154 : BitVec 32 := Scalar.muli arg6 c64_i32
  let v155 : Index := Scalar.indexCast v154
  let c0_68 : Index := 0#32
  ![0, v155.toNat, 0]
def k0_off2 (k0_t1 : Fin k0_t1_loop.trips) : Fin 3 → Nat :=
  let c1_73 : Index := 1#32
  let c0_i32 : BitVec 32 := 0#32
  let c1_i32 : BitVec 32 := 1#32
  let arg6 : BitVec 32 := Scf.iv c0_i32 c1_i32 k0_t1
  let c64_i32_72 : BitVec 32 := 64#32
  let v208 : BitVec 32 := Scalar.muli arg6 c64_i32_72
  let v209 : Index := Scalar.indexCast v208
  let c0_74 : Index := 0#32
  ![1, v209.toNat, 0]
def k0_off3 (k0_t1 : Fin k0_t1_loop.trips) : Fin 3 → Nat :=
  let c2_78 : Index := 2#32
  let c0_i32 : BitVec 32 := 0#32
  let c1_i32 : BitVec 32 := 1#32
  let arg6 : BitVec 32 := Scf.iv c0_i32 c1_i32 k0_t1
  let c64_i32_77 : BitVec 32 := 64#32
  let v262 : BitVec 32 := Scalar.muli arg6 c64_i32_77
  let v263 : Index := Scalar.indexCast v262
  let c0_79 : Index := 0#32
  ![2, v263.toNat, 0]
def k0_off4 (k0_t1 : Fin k0_t1_loop.trips) : Fin 3 → Nat :=
  let c3_83 : Index := 3#32
  let c0_i32 : BitVec 32 := 0#32
  let c1_i32 : BitVec 32 := 1#32
  let arg6 : BitVec 32 := Scf.iv c0_i32 c1_i32 k0_t1
  let c64_i32_82 : BitVec 32 := 64#32
  let v316 : BitVec 32 := Scalar.muli arg6 c64_i32_82
  let v317 : Index := Scalar.indexCast v316
  let c0_84 : Index := 0#32
  ![3, v317.toNat, 0]
def k0_off5 (k0_t1 : Fin k0_t1_loop.trips) : Fin 3 → Nat :=
  let c4_88 : Index := 4#32
  let c0_i32 : BitVec 32 := 0#32
  let c1_i32 : BitVec 32 := 1#32
  let arg6 : BitVec 32 := Scf.iv c0_i32 c1_i32 k0_t1
  let c64_i32_87 : BitVec 32 := 64#32
  let v370 : BitVec 32 := Scalar.muli arg6 c64_i32_87
  let v371 : Index := Scalar.indexCast v370
  let c0_89 : Index := 0#32
  ![4, v371.toNat, 0]
def k0_off6 (k0_t1 : Fin k0_t1_loop.trips) : Fin 3 → Nat :=
  let c5_93 : Index := 5#32
  let c0_i32 : BitVec 32 := 0#32
  let c1_i32 : BitVec 32 := 1#32
  let arg6 : BitVec 32 := Scf.iv c0_i32 c1_i32 k0_t1
  let c64_i32_92 : BitVec 32 := 64#32
  let v424 : BitVec 32 := Scalar.muli arg6 c64_i32_92
  let v425 : Index := Scalar.indexCast v424
  let c0_94 : Index := 0#32
  ![5, v425.toNat, 0]
def k0_off7 (k0_t1 : Fin k0_t1_loop.trips) : Fin 3 → Nat :=
  let c6_98 : Index := 6#32
  let c0_i32 : BitVec 32 := 0#32
  let c1_i32 : BitVec 32 := 1#32
  let arg6 : BitVec 32 := Scf.iv c0_i32 c1_i32 k0_t1
  let c64_i32_97 : BitVec 32 := 64#32
  let v478 : BitVec 32 := Scalar.muli arg6 c64_i32_97
  let v479 : Index := Scalar.indexCast v478
  let c0_99 : Index := 0#32
  ![6, v479.toNat, 0]
def k0_off8 (k0_t1 : Fin k0_t1_loop.trips) : Fin 3 → Nat :=
  let c7_103 : Index := 7#32
  let c0_i32 : BitVec 32 := 0#32
  let c1_i32 : BitVec 32 := 1#32
  let arg6 : BitVec 32 := Scf.iv c0_i32 c1_i32 k0_t1
  let c64_i32_102 : BitVec 32 := 64#32
  let v532 : BitVec 32 := Scalar.muli arg6 c64_i32_102
  let v533 : Index := Scalar.indexCast v532
  let c0_104 : Index := 0#32
  ![7, v533.toNat, 0]
def k0_off9 (k0_t1 : Fin k0_t1_loop.trips) : Fin 3 → Nat :=
  let c8_108 : Index := 8#32
  let c0_i32 : BitVec 32 := 0#32
  let c1_i32 : BitVec 32 := 1#32
  let arg6 : BitVec 32 := Scf.iv c0_i32 c1_i32 k0_t1
  let c64_i32_107 : BitVec 32 := 64#32
  let v586 : BitVec 32 := Scalar.muli arg6 c64_i32_107
  let v587 : Index := Scalar.indexCast v586
  let c0_109 : Index := 0#32
  ![8, v587.toNat, 0]
def k0_off10 (k0_t1 : Fin k0_t1_loop.trips) : Fin 3 → Nat :=
  let c9_113 : Index := 9#32
  let c0_i32 : BitVec 32 := 0#32
  let c1_i32 : BitVec 32 := 1#32
  let arg6 : BitVec 32 := Scf.iv c0_i32 c1_i32 k0_t1
  let c64_i32_112 : BitVec 32 := 64#32
  let v640 : BitVec 32 := Scalar.muli arg6 c64_i32_112
  let v641 : Index := Scalar.indexCast v640
  let c0_114 : Index := 0#32
  ![9, v641.toNat, 0]
def k0_off11 (k0_t1 : Fin k0_t1_loop.trips) : Fin 3 → Nat :=
  let c10_118 : Index := 10#32
  let c0_i32 : BitVec 32 := 0#32
  let c1_i32 : BitVec 32 := 1#32
  let arg6 : BitVec 32 := Scf.iv c0_i32 c1_i32 k0_t1
  let c64_i32_117 : BitVec 32 := 64#32
  let v694 : BitVec 32 := Scalar.muli arg6 c64_i32_117
  let v695 : Index := Scalar.indexCast v694
  let c0_119 : Index := 0#32
  ![10, v695.toNat, 0]
def k0_off12 (k0_t1 : Fin k0_t1_loop.trips) : Fin 3 → Nat :=
  let c11_123 : Index := 11#32
  let c0_i32 : BitVec 32 := 0#32
  let c1_i32 : BitVec 32 := 1#32
  let arg6 : BitVec 32 := Scf.iv c0_i32 c1_i32 k0_t1
  let c64_i32_122 : BitVec 32 := 64#32
  let v748 : BitVec 32 := Scalar.muli arg6 c64_i32_122
  let v749 : Index := Scalar.indexCast v748
  let c0_124 : Index := 0#32
  ![11, v749.toNat, 0]
def k0_off13 (k0_t1 : Fin k0_t1_loop.trips) : Fin 3 → Nat :=
  let c12_128 : Index := 12#32
  let c0_i32 : BitVec 32 := 0#32
  let c1_i32 : BitVec 32 := 1#32
  let arg6 : BitVec 32 := Scf.iv c0_i32 c1_i32 k0_t1
  let c64_i32_127 : BitVec 32 := 64#32
  let v802 : BitVec 32 := Scalar.muli arg6 c64_i32_127
  let v803 : Index := Scalar.indexCast v802
  let c0_129 : Index := 0#32
  ![12, v803.toNat, 0]
def k0_off14 (k0_t1 : Fin k0_t1_loop.trips) : Fin 3 → Nat :=
  let c13_133 : Index := 13#32
  let c0_i32 : BitVec 32 := 0#32
  let c1_i32 : BitVec 32 := 1#32
  let arg6 : BitVec 32 := Scf.iv c0_i32 c1_i32 k0_t1
  let c64_i32_132 : BitVec 32 := 64#32
  let v856 : BitVec 32 := Scalar.muli arg6 c64_i32_132
  let v857 : Index := Scalar.indexCast v856
  let c0_134 : Index := 0#32
  ![13, v857.toNat, 0]
def k0_off15 (k0_t1 : Fin k0_t1_loop.trips) : Fin 3 → Nat :=
  let c14_138 : Index := 14#32
  let c0_i32 : BitVec 32 := 0#32
  let c1_i32 : BitVec 32 := 1#32
  let arg6 : BitVec 32 := Scf.iv c0_i32 c1_i32 k0_t1
  let c64_i32_137 : BitVec 32 := 64#32
  let v910 : BitVec 32 := Scalar.muli arg6 c64_i32_137
  let v911 : Index := Scalar.indexCast v910
  let c0_139 : Index := 0#32
  ![14, v911.toNat, 0]
def k0_off16 (k0_t1 : Fin k0_t1_loop.trips) : Fin 3 → Nat :=
  let c15_143 : Index := 15#32
  let c0_i32 : BitVec 32 := 0#32
  let c1_i32 : BitVec 32 := 1#32
  let arg6 : BitVec 32 := Scf.iv c0_i32 c1_i32 k0_t1
  let c64_i32_142 : BitVec 32 := 64#32
  let v964 : BitVec 32 := Scalar.muli arg6 c64_i32_142
  let v965 : Index := Scalar.indexCast v964
  let c0_144 : Index := 0#32
  ![15, v965.toNat, 0]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32_145 : BitVec 32 := 64#32
  let v1017 : BitVec 32 := Scalar.muli arg6 c64_i32_145
  let v1018 : Index := Scalar.indexCast v1017
  let c0_146 : Index := 0#32
  ![v1018.toNat, 0]
@[reducible] def k0_t2_loop : Scf.Loop 32 :=
  let c0_i32_40 : BitVec 32 := 0#32
  let c2_i32_41 : BitVec 32 := 2#32
  let v89 : BitVec 32 := Scalar.addi c0_i32_40 c2_i32_41
  let c1_i32_42 : BitVec 32 := 1#32
  ⟨c0_i32_40, v89, c1_i32_42⟩
def k0_off18 (k0_t2 : Fin k0_t2_loop.trips) : Fin 3 → Nat :=
  let c0_67 : Index := 0#32
  let c128_i32 : BitVec 32 := 128#32
  let c0_i32_40 : BitVec 32 := 0#32
  let c1_i32_42 : BitVec 32 := 1#32
  let arg6 : BitVec 32 := Scf.iv c0_i32_40 c1_i32_42 k0_t2
  let c64_i32 : BitVec 32 := 64#32
  let v154 : BitVec 32 := Scalar.muli arg6 c64_i32
  let v155 : BitVec 32 := Scalar.addi c128_i32 v154
  let v156 : Index := Scalar.indexCast v155
  let c0_68 : Index := 0#32
  ![0, v156.toNat, 0]
def k0_off19 (k0_t2 : Fin k0_t2_loop.trips) : Fin 3 → Nat :=
  let c1_74 : Index := 1#32
  let c128_i32_73 : BitVec 32 := 128#32
  let c0_i32_40 : BitVec 32 := 0#32
  let c1_i32_42 : BitVec 32 := 1#32
  let arg6 : BitVec 32 := Scf.iv c0_i32_40 c1_i32_42 k0_t2
  let c64_i32_72 : BitVec 32 := 64#32
  let v209 : BitVec 32 := Scalar.muli arg6 c64_i32_72
  let v210 : BitVec 32 := Scalar.addi c128_i32_73 v209
  let v211 : Index := Scalar.indexCast v210
  let c0_75 : Index := 0#32
  ![1, v211.toNat, 0]
def k0_off20 (k0_t2 : Fin k0_t2_loop.trips) : Fin 3 → Nat :=
  let c2_80 : Index := 2#32
  let c128_i32_79 : BitVec 32 := 128#32
  let c0_i32_40 : BitVec 32 := 0#32
  let c1_i32_42 : BitVec 32 := 1#32
  let arg6 : BitVec 32 := Scf.iv c0_i32_40 c1_i32_42 k0_t2
  let c64_i32_78 : BitVec 32 := 64#32
  let v264 : BitVec 32 := Scalar.muli arg6 c64_i32_78
  let v265 : BitVec 32 := Scalar.addi c128_i32_79 v264
  let v266 : Index := Scalar.indexCast v265
  let c0_81 : Index := 0#32
  ![2, v266.toNat, 0]
def k0_off21 (k0_t2 : Fin k0_t2_loop.trips) : Fin 3 → Nat :=
  let c3_86 : Index := 3#32
  let c128_i32_85 : BitVec 32 := 128#32
  let c0_i32_40 : BitVec 32 := 0#32
  let c1_i32_42 : BitVec 32 := 1#32
  let arg6 : BitVec 32 := Scf.iv c0_i32_40 c1_i32_42 k0_t2
  let c64_i32_84 : BitVec 32 := 64#32
  let v319 : BitVec 32 := Scalar.muli arg6 c64_i32_84
  let v320 : BitVec 32 := Scalar.addi c128_i32_85 v319
  let v321 : Index := Scalar.indexCast v320
  let c0_87 : Index := 0#32
  ![3, v321.toNat, 0]
def k0_off22 (k0_t2 : Fin k0_t2_loop.trips) : Fin 3 → Nat :=
  let c4_92 : Index := 4#32
  let c128_i32_91 : BitVec 32 := 128#32
  let c0_i32_40 : BitVec 32 := 0#32
  let c1_i32_42 : BitVec 32 := 1#32
  let arg6 : BitVec 32 := Scf.iv c0_i32_40 c1_i32_42 k0_t2
  let c64_i32_90 : BitVec 32 := 64#32
  let v374 : BitVec 32 := Scalar.muli arg6 c64_i32_90
  let v375 : BitVec 32 := Scalar.addi c128_i32_91 v374
  let v376 : Index := Scalar.indexCast v375
  let c0_93 : Index := 0#32
  ![4, v376.toNat, 0]
def k0_off23 (k0_t2 : Fin k0_t2_loop.trips) : Fin 3 → Nat :=
  let c5_98 : Index := 5#32
  let c128_i32_97 : BitVec 32 := 128#32
  let c0_i32_40 : BitVec 32 := 0#32
  let c1_i32_42 : BitVec 32 := 1#32
  let arg6 : BitVec 32 := Scf.iv c0_i32_40 c1_i32_42 k0_t2
  let c64_i32_96 : BitVec 32 := 64#32
  let v429 : BitVec 32 := Scalar.muli arg6 c64_i32_96
  let v430 : BitVec 32 := Scalar.addi c128_i32_97 v429
  let v431 : Index := Scalar.indexCast v430
  let c0_99 : Index := 0#32
  ![5, v431.toNat, 0]
def k0_off24 (k0_t2 : Fin k0_t2_loop.trips) : Fin 3 → Nat :=
  let c6_104 : Index := 6#32
  let c128_i32_103 : BitVec 32 := 128#32
  let c0_i32_40 : BitVec 32 := 0#32
  let c1_i32_42 : BitVec 32 := 1#32
  let arg6 : BitVec 32 := Scf.iv c0_i32_40 c1_i32_42 k0_t2
  let c64_i32_102 : BitVec 32 := 64#32
  let v484 : BitVec 32 := Scalar.muli arg6 c64_i32_102
  let v485 : BitVec 32 := Scalar.addi c128_i32_103 v484
  let v486 : Index := Scalar.indexCast v485
  let c0_105 : Index := 0#32
  ![6, v486.toNat, 0]
def k0_off25 (k0_t2 : Fin k0_t2_loop.trips) : Fin 3 → Nat :=
  let c7_110 : Index := 7#32
  let c128_i32_109 : BitVec 32 := 128#32
  let c0_i32_40 : BitVec 32 := 0#32
  let c1_i32_42 : BitVec 32 := 1#32
  let arg6 : BitVec 32 := Scf.iv c0_i32_40 c1_i32_42 k0_t2
  let c64_i32_108 : BitVec 32 := 64#32
  let v539 : BitVec 32 := Scalar.muli arg6 c64_i32_108
  let v540 : BitVec 32 := Scalar.addi c128_i32_109 v539
  let v541 : Index := Scalar.indexCast v540
  let c0_111 : Index := 0#32
  ![7, v541.toNat, 0]
def k0_off26 (k0_t2 : Fin k0_t2_loop.trips) : Fin 3 → Nat :=
  let c8_116 : Index := 8#32
  let c128_i32_115 : BitVec 32 := 128#32
  let c0_i32_40 : BitVec 32 := 0#32
  let c1_i32_42 : BitVec 32 := 1#32
  let arg6 : BitVec 32 := Scf.iv c0_i32_40 c1_i32_42 k0_t2
  let c64_i32_114 : BitVec 32 := 64#32
  let v594 : BitVec 32 := Scalar.muli arg6 c64_i32_114
  let v595 : BitVec 32 := Scalar.addi c128_i32_115 v594
  let v596 : Index := Scalar.indexCast v595
  let c0_117 : Index := 0#32
  ![8, v596.toNat, 0]
def k0_off27 (k0_t2 : Fin k0_t2_loop.trips) : Fin 3 → Nat :=
  let c9_122 : Index := 9#32
  let c128_i32_121 : BitVec 32 := 128#32
  let c0_i32_40 : BitVec 32 := 0#32
  let c1_i32_42 : BitVec 32 := 1#32
  let arg6 : BitVec 32 := Scf.iv c0_i32_40 c1_i32_42 k0_t2
  let c64_i32_120 : BitVec 32 := 64#32
  let v649 : BitVec 32 := Scalar.muli arg6 c64_i32_120
  let v650 : BitVec 32 := Scalar.addi c128_i32_121 v649
  let v651 : Index := Scalar.indexCast v650
  let c0_123 : Index := 0#32
  ![9, v651.toNat, 0]
def k0_off28 (k0_t2 : Fin k0_t2_loop.trips) : Fin 3 → Nat :=
  let c10_128 : Index := 10#32
  let c128_i32_127 : BitVec 32 := 128#32
  let c0_i32_40 : BitVec 32 := 0#32
  let c1_i32_42 : BitVec 32 := 1#32
  let arg6 : BitVec 32 := Scf.iv c0_i32_40 c1_i32_42 k0_t2
  let c64_i32_126 : BitVec 32 := 64#32
  let v704 : BitVec 32 := Scalar.muli arg6 c64_i32_126
  let v705 : BitVec 32 := Scalar.addi c128_i32_127 v704
  let v706 : Index := Scalar.indexCast v705
  let c0_129 : Index := 0#32
  ![10, v706.toNat, 0]
def k0_off29 (k0_t2 : Fin k0_t2_loop.trips) : Fin 3 → Nat :=
  let c11_134 : Index := 11#32
  let c128_i32_133 : BitVec 32 := 128#32
  let c0_i32_40 : BitVec 32 := 0#32
  let c1_i32_42 : BitVec 32 := 1#32
  let arg6 : BitVec 32 := Scf.iv c0_i32_40 c1_i32_42 k0_t2
  let c64_i32_132 : BitVec 32 := 64#32
  let v759 : BitVec 32 := Scalar.muli arg6 c64_i32_132
  let v760 : BitVec 32 := Scalar.addi c128_i32_133 v759
  let v761 : Index := Scalar.indexCast v760
  let c0_135 : Index := 0#32
  ![11, v761.toNat, 0]
def k0_off30 (k0_t2 : Fin k0_t2_loop.trips) : Fin 3 → Nat :=
  let c12_140 : Index := 12#32
  let c128_i32_139 : BitVec 32 := 128#32
  let c0_i32_40 : BitVec 32 := 0#32
  let c1_i32_42 : BitVec 32 := 1#32
  let arg6 : BitVec 32 := Scf.iv c0_i32_40 c1_i32_42 k0_t2
  let c64_i32_138 : BitVec 32 := 64#32
  let v814 : BitVec 32 := Scalar.muli arg6 c64_i32_138
  let v815 : BitVec 32 := Scalar.addi c128_i32_139 v814
  let v816 : Index := Scalar.indexCast v815
  let c0_141 : Index := 0#32
  ![12, v816.toNat, 0]
def k0_off31 (k0_t2 : Fin k0_t2_loop.trips) : Fin 3 → Nat :=
  let c13_146 : Index := 13#32
  let c128_i32_145 : BitVec 32 := 128#32
  let c0_i32_40 : BitVec 32 := 0#32
  let c1_i32_42 : BitVec 32 := 1#32
  let arg6 : BitVec 32 := Scf.iv c0_i32_40 c1_i32_42 k0_t2
  let c64_i32_144 : BitVec 32 := 64#32
  let v869 : BitVec 32 := Scalar.muli arg6 c64_i32_144
  let v870 : BitVec 32 := Scalar.addi c128_i32_145 v869
  let v871 : Index := Scalar.indexCast v870
  let c0_147 : Index := 0#32
  ![13, v871.toNat, 0]
def k0_off32 (k0_t2 : Fin k0_t2_loop.trips) : Fin 3 → Nat :=
  let c14_152 : Index := 14#32
  let c128_i32_151 : BitVec 32 := 128#32
  let c0_i32_40 : BitVec 32 := 0#32
  let c1_i32_42 : BitVec 32 := 1#32
  let arg6 : BitVec 32 := Scf.iv c0_i32_40 c1_i32_42 k0_t2
  let c64_i32_150 : BitVec 32 := 64#32
  let v924 : BitVec 32 := Scalar.muli arg6 c64_i32_150
  let v925 : BitVec 32 := Scalar.addi c128_i32_151 v924
  let v926 : Index := Scalar.indexCast v925
  let c0_153 : Index := 0#32
  ![14, v926.toNat, 0]
def k0_off33 (k0_t2 : Fin k0_t2_loop.trips) : Fin 3 → Nat :=
  let c15_158 : Index := 15#32
  let c128_i32_157 : BitVec 32 := 128#32
  let c0_i32_40 : BitVec 32 := 0#32
  let c1_i32_42 : BitVec 32 := 1#32
  let arg6 : BitVec 32 := Scf.iv c0_i32_40 c1_i32_42 k0_t2
  let c64_i32_156 : BitVec 32 := 64#32
  let v979 : BitVec 32 := Scalar.muli arg6 c64_i32_156
  let v980 : BitVec 32 := Scalar.addi c128_i32_157 v979
  let v981 : Index := Scalar.indexCast v980
  let c0_159 : Index := 0#32
  ![15, v981.toNat, 0]
def k0_off34 (k0_t2 : Fin k0_t2_loop.trips) : Fin 2 → Nat :=
  let c128_i32_161 : BitVec 32 := 128#32
  let c0_i32_40 : BitVec 32 := 0#32
  let c1_i32_42 : BitVec 32 := 1#32
  let arg6 : BitVec 32 := Scf.iv c0_i32_40 c1_i32_42 k0_t2
  let c64_i32_160 : BitVec 32 := 64#32
  let v1033 : BitVec 32 := Scalar.muli arg6 c64_i32_160
  let v1034 : BitVec 32 := Scalar.addi c128_i32_161 v1033
  let v1035 : Index := Scalar.indexCast v1034
  let c128_162 : Index := 128#32
  ![v1035.toNat, 128]
@[reducible] def k0_t3_loop : Scf.Loop 32 :=
  let c0_i32_56 : BitVec 32 := 0#32
  let c3_i32 : BitVec 32 := 3#32
  let v139 : BitVec 32 := Scalar.addi c0_i32_56 c3_i32
  let c1_i32_57 : BitVec 32 := 1#32
  ⟨c0_i32_56, v139, c1_i32_57⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x128x256 : Shape := ⟨3, ![4, 128, 256]⟩
abbrev S4x256x256 : Shape := ⟨3, ![4, 256, 256]⟩
abbrev S_ : Shape := ⟨0, ![]⟩
abbrev S4x256 : Shape := ⟨2, ![4, 256]⟩
abbrev S4x128x256x1 : Shape := ⟨4, ![4, 128, 256, 1]⟩
abbrev S4x128x1x256 : Shape := ⟨4, ![4, 128, 1, 256]⟩
abbrev S4x128x256x256 : Shape := ⟨4, ![4, 128, 256, 256]⟩
abbrev S4x16 : Shape := ⟨2, ![4, 16]⟩
abbrev S4x1x16 : Shape := ⟨3, ![4, 1, 16]⟩
abbrev S4x16x1 : Shape := ⟨3, ![4, 16, 1]⟩
abbrev S1 : Shape := ⟨1, ![1]⟩
abbrev S1x1x1 : Shape := ⟨3, ![1, 1, 1]⟩
abbrev S4x256x16 : Shape := ⟨3, ![4, 256, 16]⟩
abbrev S4x256x1 : Shape := ⟨3, ![4, 256, 1]⟩
abbrev S1x1x16 : Shape := ⟨3, ![1, 1, 16]⟩
abbrev S4x128x16 : Shape := ⟨3, ![4, 128, 16]⟩
abbrev S4x128x16x1 : Shape := ⟨4, ![4, 128, 16, 1]⟩
abbrev S1x1x1x1 : Shape := ⟨4, ![1, 1, 1, 1]⟩

abbrev nBuf : Space → Nat
  | .hbm => 194
  | .vmem => 0
  | .smem => 0
  | _ => 0

abbrev hbmTy0_0 (i : Nat) : BufTy := match i % 128 with
  | 0 => ⟨S4x128x256, .f32⟩
  | 1 => ⟨S4x256x256, .f32⟩
  | 2 => ⟨S_, .f32⟩
  | 3 => ⟨S4x256, .f32⟩
  | 4 => ⟨S_, .f32⟩
  | 5 => ⟨S4x256, .f32⟩
  | 6 => ⟨S4x256, .f32⟩
  | 7 => ⟨S4x128x256x1, .f32⟩
  | 8 => ⟨S4x128x1x256, .f32⟩
  | 9 => ⟨S4x128x256x256, .f32⟩
  | 10 => ⟨S4x128x256x256, .f32⟩
  | 11 => ⟨S4x128x256x256, .f32⟩
  | 12 => ⟨S4x128x256x256, .f32⟩
  | 13 => ⟨S_, .f32⟩
  | 14 => ⟨S4x256x256, .f32⟩
  | 15 => ⟨S4x16, .f32⟩
  | 16 => ⟨S4x16, .i32⟩
  | 17 => ⟨S4x1x16, .i32⟩
  | 18 => ⟨S_, .i32⟩
  | 19 => ⟨S4x1x16, .i32⟩
  | 20 => ⟨S4x1x16, .i1⟩
  | 21 => ⟨S_, .i32⟩
  | 22 => ⟨S4x1x16, .i32⟩
  | 23 => ⟨S4x1x16, .i32⟩
  | 24 => ⟨S4x1x16, .i32⟩
  | 25 => ⟨S4x16x1, .i32⟩
  | 26 => ⟨S1, .i32⟩
  | 27 => ⟨S_, .i32⟩
  | 28 => ⟨S4x16x1, .i32⟩
  | 29 => ⟨S4x16x1, .i1⟩
  | 30 => ⟨S1x1x1, .i32⟩
  | 31 => ⟨S4x16x1, .i32⟩
  | 32 => ⟨S4x16x1, .i1⟩
  | 33 => ⟨S4x16x1, .i1⟩
  | 34 => ⟨S_, .i1⟩
  | 35 => ⟨S4x16, .i1⟩
  | 36 => ⟨S4x256x16, .f32⟩
  | 37 => ⟨S4x256x16, .i1⟩
  | 38 => ⟨S_, .f32⟩
  | 39 => ⟨S4x256x16, .f32⟩
  | 40 => ⟨S4x256x16, .f32⟩
  | 41 => ⟨S4x256x16, .i32⟩
  | 42 => ⟨S_, .f32⟩
  | 43 => ⟨S_, .i32⟩
  | 44 => ⟨S4x256, .f32⟩
  | 45 => ⟨S4x256, .i32⟩
  | 46 => ⟨S4x256x1, .i32⟩
  | 47 => ⟨S1x1x16, .i32⟩
  | 48 => ⟨S4x256x16, .i32⟩
  | 49 => ⟨S4x256x16, .i32⟩
  | 50 => ⟨S4x256x16, .i1⟩
  | 51 => ⟨S4x256x16, .f32⟩
  | 52 => ⟨S4x256x1, .f32⟩
  | 53 => ⟨S4x256x16, .f32⟩
  | 54 => ⟨S4x256x16, .f32⟩
  | 55 => ⟨S4x256x16, .f32⟩
  | 56 => ⟨S_, .f32⟩
  | 57 => ⟨S4x256x16, .f32⟩
  | 58 => ⟨S4x256x16, .i1⟩
  | 59 => ⟨S_, .f32⟩
  | 60 => ⟨S_, .f32⟩
  | 61 => ⟨S4x256x16, .f32⟩
  | 62 => ⟨S4x256x16, .f32⟩
  | 63 => ⟨S4x256x16, .i32⟩
  | 64 => ⟨S_, .f32⟩
  | 65 => ⟨S_, .i32⟩
  | 66 => ⟨S4x16, .f32⟩
  | 67 => ⟨S4x16, .i32⟩
  | 68 => ⟨S4x1x16, .i32⟩
  | 69 => ⟨S_, .i32⟩
  | 70 => ⟨S4x1x16, .i32⟩
  | 71 => ⟨S4x1x16, .i1⟩
  | 72 => ⟨S_, .i32⟩
  | 73 => ⟨S4x1x16, .i32⟩
  | 74 => ⟨S4x1x16, .i32⟩
  | 75 => ⟨S4x1x16, .i32⟩
  | 76 => ⟨S4x16x1, .i32⟩
  | 77 => ⟨S1, .i32⟩
  | 78 => ⟨S_, .i32⟩
  | 79 => ⟨S4x16x1, .i32⟩
  | 80 => ⟨S4x16x1, .i1⟩
  | 81 => ⟨S1x1x1, .i32⟩
  | 82 => ⟨S4x16x1, .i32⟩
  | 83 => ⟨S4x16x1, .i1⟩
  | 84 => ⟨S4x16x1, .i1⟩
  | 85 => ⟨S_, .i1⟩
  | 86 => ⟨S4x16, .i1⟩
  | 87 => ⟨S4x256x16, .f32⟩
  | 88 => ⟨S4x256x16, .i1⟩
  | 89 => ⟨S_, .f32⟩
  | 90 => ⟨S4x256x16, .f32⟩
  | 91 => ⟨S4x256x16, .f32⟩
  | 92 => ⟨S4x256x16, .i32⟩
  | 93 => ⟨S_, .f32⟩
  | 94 => ⟨S_, .i32⟩
  | 95 => ⟨S4x256, .f32⟩
  | 96 => ⟨S4x256, .i32⟩
  | 97 => ⟨S4x256x1, .i32⟩
  | 98 => ⟨S1x1x16, .i32⟩
  | 99 => ⟨S4x256x16, .i32⟩
  | 100 => ⟨S4x256x16, .i32⟩
  | 101 => ⟨S4x256x16, .i1⟩
  | 102 => ⟨S4x256x16, .f32⟩
  | 103 => ⟨S4x256x1, .f32⟩
  | 104 => ⟨S4x256x16, .f32⟩
  | 105 => ⟨S4x256x16, .f32⟩
  | 106 => ⟨S4x256x16, .f32⟩
  | 107 => ⟨S_, .f32⟩
  | 108 => ⟨S4x256x16, .f32⟩
  | 109 => ⟨S4x256x16, .i1⟩
  | 110 => ⟨S_, .f32⟩
  | 111 => ⟨S_, .f32⟩
  | 112 => ⟨S4x256x16, .f32⟩
  | 113 => ⟨S4x256x16, .f32⟩
  | 114 => ⟨S4x256x16, .i32⟩
  | 115 => ⟨S_, .f32⟩
  | 116 => ⟨S_, .i32⟩
  | 117 => ⟨S4x16, .f32⟩
  | 118 => ⟨S4x16, .i32⟩
  | 119 => ⟨S4x1x16, .i32⟩
  | 120 => ⟨S_, .i32⟩
  | 121 => ⟨S4x1x16, .i32⟩
  | 122 => ⟨S4x1x16, .i1⟩
  | 123 => ⟨S_, .i32⟩
  | 124 => ⟨S4x1x16, .i32⟩
  | 125 => ⟨S4x1x16, .i32⟩
  | 126 => ⟨S4x1x16, .i32⟩
  | 127 => ⟨S4x16x1, .i32⟩
  | _ => ⟨S4x128x256, .f32⟩

abbrev hbmTy0_1 (i : Nat) : BufTy := match i % 128 with
  | 0 => ⟨S1, .i32⟩
  | 1 => ⟨S_, .i32⟩
  | 2 => ⟨S4x16x1, .i32⟩
  | 3 => ⟨S4x16x1, .i1⟩
  | 4 => ⟨S1x1x1, .i32⟩
  | 5 => ⟨S4x16x1, .i32⟩
  | 6 => ⟨S4x16x1, .i1⟩
  | 7 => ⟨S4x16x1, .i1⟩
  | 8 => ⟨S_, .i1⟩
  | 9 => ⟨S4x16, .i1⟩
  | 10 => ⟨S4x256x16, .f32⟩
  | 11 => ⟨S4x256x16, .i1⟩
  | 12 => ⟨S_, .f32⟩
  | 13 => ⟨S4x256x16, .f32⟩
  | 14 => ⟨S4x256x16, .f32⟩
  | 15 => ⟨S4x256x16, .i32⟩
  | 16 => ⟨S_, .f32⟩
  | 17 => ⟨S_, .i32⟩
  | 18 => ⟨S4x256, .f32⟩
  | 19 => ⟨S4x256, .i32⟩
  | 20 => ⟨S4x256x1, .i32⟩
  | 21 => ⟨S1x1x16, .i32⟩
  | 22 => ⟨S4x256x16, .i32⟩
  | 23 => ⟨S4x256x16, .i32⟩
  | 24 => ⟨S4x256x16, .i1⟩
  | 25 => ⟨S4x256x16, .f32⟩
  | 26 => ⟨S4x256x1, .f32⟩
  | 27 => ⟨S4x256x16, .f32⟩
  | 28 => ⟨S4x256x16, .f32⟩
  | 29 => ⟨S4x256x16, .f32⟩
  | 30 => ⟨S_, .f32⟩
  | 31 => ⟨S4x256x16, .f32⟩
  | 32 => ⟨S4x256x16, .i1⟩
  | 33 => ⟨S_, .f32⟩
  | 34 => ⟨S_, .f32⟩
  | 35 => ⟨S4x256x16, .f32⟩
  | 36 => ⟨S4x256x16, .f32⟩
  | 37 => ⟨S4x256x16, .i32⟩
  | 38 => ⟨S_, .f32⟩
  | 39 => ⟨S_, .i32⟩
  | 40 => ⟨S4x16, .f32⟩
  | 41 => ⟨S4x16, .i32⟩
  | 42 => ⟨S4x1x16, .i32⟩
  | 43 => ⟨S4x128x16, .i32⟩
  | 44 => ⟨S_, .i32⟩
  | 45 => ⟨S4x128x16, .i32⟩
  | 46 => ⟨S4x128x16, .i1⟩
  | 47 => ⟨S_, .i32⟩
  | 48 => ⟨S4x128x16, .i32⟩
  | 49 => ⟨S4x128x16, .i32⟩
  | 50 => ⟨S4x128x16, .i32⟩
  | 51 => ⟨S4x128x16x1, .i32⟩
  | 52 => ⟨S1, .i32⟩
  | 53 => ⟨S_, .i32⟩
  | 54 => ⟨S4x128x16x1, .i32⟩
  | 55 => ⟨S4x128x16x1, .i1⟩
  | 56 => ⟨S1x1x1x1, .i32⟩
  | 57 => ⟨S4x128x16x1, .i32⟩
  | 58 => ⟨S4x128x16x1, .i1⟩
  | 59 => ⟨S4x128x16x1, .i1⟩
  | 60 => ⟨S_, .i1⟩
  | 61 => ⟨S4x128x16, .i1⟩
  | 62 => ⟨S4x128x16, .f32⟩
  | 63 => ⟨S_, .f32⟩
  | 64 => ⟨S4x128x16, .f32⟩
  | 65 => ⟨S4x128x16, .f32⟩
  | _ => ⟨S4x128x256, .f32⟩

abbrev hbmTy (i : Nat) : BufTy := match i / 128 with
  | 0 => hbmTy0_0 i
  | 1 => hbmTy0_1 i
  | _ => ⟨S4x128x256, .f32⟩

abbrev bufTy : (tb : Table) → Fin (tcTables nBuf tb) → BufTy
  | .hbm, ⟨i, _⟩ => hbmTy i
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v11 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v12 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_v19 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_v20 : Ref sig .tc := ⟨.hbm, 62, rfl⟩
abbrev main_call4_v0 : Ref sig .tc := ⟨.hbm, 63, rfl⟩
abbrev main_call4_cst : Ref sig .tc := ⟨.hbm, 64, rfl⟩
abbrev main_call4_c : Ref sig .tc := ⟨.hbm, 65, rfl⟩
abbrev main_call4_v1_0 : Ref sig .tc := ⟨.hbm, 66, rfl⟩
abbrev main_v21 : Ref sig .tc := ⟨.hbm, 67, rfl⟩
abbrev main_v22 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_c_1 : Ref sig .tc := ⟨.hbm, 77, rfl⟩
abbrev main_call5_c_2 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_3 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_call5_cst : Ref sig .tc := ⟨.hbm, 89, rfl⟩
abbrev main_call5_v15 : Ref sig .tc := ⟨.hbm, 90, rfl⟩
abbrev main_v23 : Ref sig .tc := ⟨.hbm, 91, rfl⟩
abbrev main_call6_v0 : Ref sig .tc := ⟨.hbm, 92, rfl⟩
abbrev main_call6_cst : Ref sig .tc := ⟨.hbm, 93, rfl⟩
abbrev main_call6_c : Ref sig .tc := ⟨.hbm, 94, rfl⟩
abbrev main_call6_v1_0 : Ref sig .tc := ⟨.hbm, 95, rfl⟩
abbrev main_v24 : Ref sig .tc := ⟨.hbm, 96, rfl⟩
abbrev main_call7_v0 : Ref sig .tc := ⟨.hbm, 97, rfl⟩
abbrev main_call7_v1 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_cst_4 : Ref sig .tc := ⟨.hbm, 107, rfl⟩
abbrev main_v30 : Ref sig .tc := ⟨.hbm, 108, rfl⟩
abbrev main_v31 : Ref sig .tc := ⟨.hbm, 109, rfl⟩
abbrev main_cst_5 : Ref sig .tc := ⟨.hbm, 110, rfl⟩
abbrev main_call8_v0 : Ref sig .tc := ⟨.hbm, 111, rfl⟩
abbrev main_call8_v1 : Ref sig .tc := ⟨.hbm, 112, rfl⟩
abbrev main_v32 : Ref sig .tc := ⟨.hbm, 113, rfl⟩
abbrev main_call9_v0 : Ref sig .tc := ⟨.hbm, 114, rfl⟩
abbrev main_call9_cst : Ref sig .tc := ⟨.hbm, 115, rfl⟩
abbrev main_call9_c : Ref sig .tc := ⟨.hbm, 116, rfl⟩
abbrev main_call9_v1_0 : Ref sig .tc := ⟨.hbm, 117, rfl⟩
abbrev main_v33 : Ref sig .tc := ⟨.hbm, 118, rfl⟩
abbrev main_v34 : Ref sig .tc := ⟨.hbm, 119, rfl⟩
abbrev main_call10_c : Ref sig .tc := ⟨.hbm, 120, rfl⟩
abbrev main_call10_v0 : Ref sig .tc := ⟨.hbm, 121, rfl⟩
abbrev main_call10_v1 : Ref sig .tc := ⟨.hbm, 122, rfl⟩
abbrev main_call10_c_0 : Ref sig .tc := ⟨.hbm, 123, rfl⟩
abbrev main_call10_v2 : Ref sig .tc := ⟨.hbm, 124, rfl⟩
abbrev main_call10_v3 : Ref sig .tc := ⟨.hbm, 125, rfl⟩
abbrev main_call10_v4 : Ref sig .tc := ⟨.hbm, 126, rfl⟩
abbrev main_call10_v5 : Ref sig .tc := ⟨.hbm, 127, rfl⟩
abbrev main_call10_c_1 : Ref sig .tc := ⟨.hbm, 128, rfl⟩
abbrev main_call10_c_2 : Ref sig .tc := ⟨.hbm, 129, rfl⟩
abbrev main_call10_v6 : Ref sig .tc := ⟨.hbm, 130, rfl⟩
abbrev main_call10_v7 : Ref sig .tc := ⟨.hbm, 131, rfl⟩
abbrev main_call10_v8 : Ref sig .tc := ⟨.hbm, 132, rfl⟩
abbrev main_call10_v9 : Ref sig .tc := ⟨.hbm, 133, rfl⟩
abbrev main_call10_v10 : Ref sig .tc := ⟨.hbm, 134, rfl⟩
abbrev main_call10_v11 : Ref sig .tc := ⟨.hbm, 135, rfl⟩
abbrev main_call10_c_3 : Ref sig .tc := ⟨.hbm, 136, rfl⟩
abbrev main_call10_v12 : Ref sig .tc := ⟨.hbm, 137, rfl⟩
abbrev main_call10_v13 : Ref sig .tc := ⟨.hbm, 138, rfl⟩
abbrev main_call10_v14 : Ref sig .tc := ⟨.hbm, 139, rfl⟩
abbrev main_call10_cst : Ref sig .tc := ⟨.hbm, 140, rfl⟩
abbrev main_call10_v15 : Ref sig .tc := ⟨.hbm, 141, rfl⟩
abbrev main_v35 : Ref sig .tc := ⟨.hbm, 142, rfl⟩
abbrev main_call11_v0 : Ref sig .tc := ⟨.hbm, 143, rfl⟩
abbrev main_call11_cst : Ref sig .tc := ⟨.hbm, 144, rfl⟩
abbrev main_call11_c : Ref sig .tc := ⟨.hbm, 145, rfl⟩
abbrev main_call11_v1_0 : Ref sig .tc := ⟨.hbm, 146, rfl⟩
abbrev main_v36 : Ref sig .tc := ⟨.hbm, 147, rfl⟩
abbrev main_call12_v0 : Ref sig .tc := ⟨.hbm, 148, rfl⟩
abbrev main_call12_v1 : Ref sig .tc := ⟨.hbm, 149, rfl⟩
abbrev main_call12_v2 : Ref sig .tc := ⟨.hbm, 150, rfl⟩
abbrev main_call12_v3 : Ref sig .tc := ⟨.hbm, 151, rfl⟩
abbrev main_call12_v4 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_cst_6 : Ref sig .tc := ⟨.hbm, 158, rfl⟩
abbrev main_v42 : Ref sig .tc := ⟨.hbm, 159, rfl⟩
abbrev main_v43 : Ref sig .tc := ⟨.hbm, 160, rfl⟩
abbrev main_cst_7 : Ref sig .tc := ⟨.hbm, 161, rfl⟩
abbrev main_call13_v0 : Ref sig .tc := ⟨.hbm, 162, rfl⟩
abbrev main_call13_v1 : Ref sig .tc := ⟨.hbm, 163, rfl⟩
abbrev main_v44 : Ref sig .tc := ⟨.hbm, 164, rfl⟩
abbrev main_call14_v0 : Ref sig .tc := ⟨.hbm, 165, rfl⟩
abbrev main_call14_cst : Ref sig .tc := ⟨.hbm, 166, rfl⟩
abbrev main_call14_c : Ref sig .tc := ⟨.hbm, 167, rfl⟩
abbrev main_call14_v1_0 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_call15_c : Ref sig .tc := ⟨.hbm, 172, rfl⟩
abbrev main_call15_v0 : Ref sig .tc := ⟨.hbm, 173, rfl⟩
abbrev main_call15_v1 : Ref sig .tc := ⟨.hbm, 174, rfl⟩
abbrev main_call15_c_0 : Ref sig .tc := ⟨.hbm, 175, rfl⟩
abbrev main_call15_v2 : Ref sig .tc := ⟨.hbm, 176, rfl⟩
abbrev main_call15_v3 : Ref sig .tc := ⟨.hbm, 177, rfl⟩
abbrev main_call15_v4 : Ref sig .tc := ⟨.hbm, 178, rfl⟩
abbrev main_call15_v5 : Ref sig .tc := ⟨.hbm, 179, rfl⟩
abbrev main_call15_c_1 : Ref sig .tc := ⟨.hbm, 180, rfl⟩
abbrev main_call15_c_2 : Ref sig .tc := ⟨.hbm, 181, rfl⟩
abbrev main_call15_v6 : Ref sig .tc := ⟨.hbm, 182, rfl⟩
abbrev main_call15_v7 : Ref sig .tc := ⟨.hbm, 183, rfl⟩
abbrev main_call15_v8 : Ref sig .tc := ⟨.hbm, 184, rfl⟩
abbrev main_call15_v9 : Ref sig .tc := ⟨.hbm, 185, rfl⟩
abbrev main_call15_v10 : Ref sig .tc := ⟨.hbm, 186, rfl⟩
abbrev main_call15_v11 : Ref sig .tc := ⟨.hbm, 187, rfl⟩
abbrev main_call15_c_3 : Ref sig .tc := ⟨.hbm, 188, rfl⟩
abbrev main_call15_v12 : Ref sig .tc := ⟨.hbm, 189, rfl⟩
abbrev main_call15_v13 : Ref sig .tc := ⟨.hbm, 190, rfl⟩
abbrev main_call15_cst : Ref sig .tc := ⟨.hbm, 191, rfl⟩
abbrev main_call15_v14 : Ref sig .tc := ⟨.hbm, 192, rfl⟩
abbrev main_v48 : Ref sig .tc := ⟨.hbm, 193, rfl⟩

abbrev nD : Nat := 1
abbrev τ : Topo := Topo.v7x

variable {F : FTy → Type} [FloatOps F]
-- ==== Proof.KernelFrame.lean ====
module

public import proofs.«01_k».proof.Proof.Gen.Kernel.Frame.Runs
public import Idealize.ShloMosaic.Lib.Claim

/-!
  The frame of the kernel, whatever the floats are: it terminates without a fault, leaves its arguments unchanged and every
  semaphore counter at zero. Nothing is said here of what the body leaves in the result and in the scratch buffers.
-/

@[expose] public section
set_option maxRecDepth 16384
noncomputable section
namespace Cert.KMed.Plain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref's buffer, whatever it holds, is the memref owned at some contents. -/
theorem some_contents (c : Dev nD) {S : Shape} {φ : EltTy} (a : Memref sig .tc .vmem S φ)
    (f : BufTy.Contents (Elt F) a.view.ty) :
    (a.view.loc (c : Thread nD τ) ↦[a.view.set]{fullShare} f : sProp 𝕄)
      ⊢ iprop(∃ d, owns (c : Thread nD τ) a fullShare d) := by
  unfold owns
  iintro H
  iexists _, _
  isplitr; swap; · iexact H
  ipureintro; rfl

set_option maxHeartbeats 1000000 in
/-- The body runs on whole memrefs, from any result and scratch to some result and scratch; it leaves its inputs alone. -/
theorem body_runs (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S1x128x16 .f32) (harg3 : arg3.IsWhole) (arg4 : Memref sig .tc .vmem S16x256x8 .f32) (harg4 : arg4.IsWhole) (arg5 : Memref sig .tc .vmem S256x256 .f32) (harg5 : arg5.IsWhole)
    (x : Vec F S1x128x256 .f32) (w : Vec F S1x256x256 .f32) (E : Set ℕ) (K : PUnit → sProp 𝕄) :
    iprop(owns (c : Thread nD τ) arg1 fullShare x ∗ owns (c : Thread nD τ) arg2 fullShare w
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare w
            ∗ (∃ d, owns (c : Thread nD τ) arg3 fullShare d) ∗ (∃ d, owns (c : Thread nD τ) arg4 fullShare d)
            ∗ (∃ d, owns (c : Thread nD τ) arg5 fullShare d)) -∗ K ⟨⟩))
      ⊢ wp frame (wpE (defs₀ (F := F)) Variants.none c none) E
          (cc0__kmedoids_body i arg1 harg1 arg2 harg2 arg3 harg3 arg4 harg4 arg5 harg5) K := by
  simp only [cc0__kmedoids_body_eq_skeleton]; unfold cc0__kmedoids_body_skel
  simp only [k0_part34_eq_skeleton, k0_part35_eq_skeleton, k0_part36_eq_skeleton, k0_part37_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]; · iapply (some_contents c arg3 _); iexact H2
  isplitl [HS0]; · iapply (some_contents c arg4 _); iexact HS0
  iapply (some_contents c arg5 _); iexact HS1

/-- The third window, the result's, is the one of which nothing is said. -/
def untold : Fin 3 → Bool := fun w => w.val == 2

/-- What the staging buffers hold after a batch: the inputs their blocks, the result's nothing that is named. -/
def pdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem pdats_arr (c : Dev nD) (w : Fin cfg0.W) : (pdats m 0 c).A w = V m c (Pipeline.arrRef spec0 w) := by
  dsimp only [pdats]
theorem pdats_after0 (c : Dev nD) (t : Fin cfg0.N) : (pdats m 0 c).after 0 t = iblk m c 0 t := by dsimp only [pdats]
theorem pdats_after1 (c : Dev nD) (t : Fin cfg0.N) : (pdats m 0 c).after 1 t = iblk m c 1 t := by dsimp only [pdats]
theorem pdats_before0 (c : Dev nD) (t : Fin cfg0.N) (d) : (pdats m 0 c).before 0 t d = iblk m c 0 t :=
  before0_0_of m (pdats m 0 c) (pdats_arr m c 0) (pdats_after0 m c) t d
theorem pdats_before1 (c : Dev nD) (t : Fin cfg0.N) (d) : (pdats m 0 c).before 1 t d = iblk m c 1 t :=
  before0_1_of m (pdats m 0 c) (pdats_arr m c 1) (pdats_after1 m c) t d

/-- What the body has when it is called for batch `t`. -/
def given (c : Dev nD) (t : Fin cfg0.N) : sProp 𝕄 :=
  iprop((pdats m 0 c).Φ t.castSucc ∗ (pdats m 0 c).owesAt () t.castSucc
    ∗ (∃ d, owns (c : Thread nD τ) (ms0_0 t) fullShare ((pdats m 0 c).before 0 t d))
    ∗ (∃ d, owns (c : Thread nD τ) (ms0_1 t) fullShare ((pdats m 0 c).before 1 t d))
    ∗ (∃ d, owns (c : Thread nD τ) (ms0_2 t) fullShare d))

/-- What it has when it returns. -/
def returned (c : Dev nD) (t : Fin cfg0.N) : sProp 𝕄 :=
  iprop((pdats m 0 c).Φ t.succ ∗ (pdats m 0 c).owesAt () t.succ
    ∗ owns (c : Thread nD τ) (ms0_0 t) fullShare ((pdats m 0 c).after 0 t)
    ∗ owns (c : Thread nD τ) (ms0_1 t) fullShare ((pdats m 0 c).after 1 t)
    ∗ (∃ d, owns (c : Thread nD τ) (ms0_2 t) fullShare d))

/-- The body, called for batch `t`. -/
theorem body_called (c : Dev nD) (t : Fin cfg0.N) :
    given m c t ⊢ wp frame (wpE (defs₀ (F := F)) Variants.none c none) Set.univ (bodyAt0 t) (fun _ => returned m c t) := by
  unfold given returned bodyAt0
  simp only [pdats_before0, pdats_before1]
  rw [show (pdats m 0 c).Φ t.succ = (pdats m 0 c).Φ t.castSucc from rfl,
    show (pdats m 0 c).owesAt () t.succ = (pdats m 0 c).owesAt () t.castSucc from rfl,
    pdats_after0, pdats_after1]
  rw [show (pdats m 0 c).Φ t.castSucc = Pipeline.ΦA spec0 c from rfl, PhiA0_eq]
  iintro ⟨⟨⟨HS0, HS1⟩, Hg⟩, Ho, ⟨%d0, H0⟩, ⟨%d1, H1⟩, ⟨%d2, H2⟩⟩
  iapply (body_runs c (grid0.coords t) _ _ _ _ _ _ _ _ _ _ (iblk m c 0 t) (iblk m c 1 t) Set.univ _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

/-- The body does at every batch what the pipeline needs of it. -/
theorem obligation (c : Dev nD) :
    BodyObligation (pdats (F := F) m 0 c) (defs₀ (F := F)) Variants.none () Set.univ untold := fun t => by
  rw [bigSep_W0, bigSep_W0, row]
  exact triple_restated (body_called m c t) rfl .rfl fun _ => .rfl

set_option backward.isDefEq.respectTransparency.types false in
/-- The launch: the input arrays end as they began, every counter at zero. -/
theorem launched : θ_run defs (onTc (τ := τ) (main (F := F))) (s₀ m ρ)
    (fun r => (Pipeline.RDat.FramePost (cfgs 0) (fun c => (pdats m 0 c).toRForget untold) (V m)) r ∧ r.2.sem = fun _ => 0) :=
  Pipeline.θ_run_frame_forget (Q' := _) cfgs (pdats m) (0 : Fin 1) launch0 defs₀ Variants.none untold m ρ main
    (hbody := fun c => (obligation m c).loose) (hshare := fun c => (pdats m 0 c).share_full fun _ => rfl)
    (howed := fun _ _ => rfl) (V := V m) (hmain := hmain m Variants.none) (hA := pdats_arr m) (hΦ := fun _ _ => rfl)

/-- The frame of the kernel: it terminates, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (launched m ρ) fun _ h =>
    ⟨fun c => ⟨(Pipeline.RDat.FramePost.arr_in h.1 c 0 rfl).trans ((pdats_arr m c 0).trans (V_main_arg0 m c)),
      (Pipeline.RDat.FramePost.arr_in h.1 c 1 rfl).trans ((pdats_arr m c 1).trans (V_main_arg1 m c))⟩, h.2⟩

end Cert.KMed.Plain
end
-- ==== Proof.DistTrips.lean ====
module

public import proofs.«01_k».proof.Proof.Gen.KernelIdeal.Loops
public import Idealize.ShloMosaic.Lib.Pointwise

/-!
  What one trip of each of the two distance loops stores.

  Each trip adds up, over the 128 features, the smaller of two tokens' features: 16 groups of 8 features, the even and
  the odd features of a group in two separate sums that are added at the end. `sum_even_odd` says that this order of
  adding does not matter; `topTrip` and `botTrip` read the one block that a trip stores, at an index.
-/

@[expose] public section
set_option maxRecDepth 16384
noncomputable section
namespace Cert.KMed
open Idealize.ShloMosaic Idealize.ShloMosaic.TcCoe Idealize.ShloMosaic.Tactic
open Cert.KernelIdeal Cert.KernelIdeal.Gen

/-- A sum over 128 numbers is the sum over the even ones and the sum over the odd ones. -/
theorem sum_even_odd (h : Fin 128 → EReal) :
    ∑ f, h f = (∑ i : Fin 64, h ⟨2 * i.val, by omega⟩) + ∑ i : Fin 64, h ⟨2 * i.val + 1, by omega⟩ := by
  have e := Fintype.sum_equiv (finProdFinEquiv (m := 64) (n := 2)) (fun p => h (finProdFinEquiv p)) h (fun _ => rfl)
  rw [← e, Fintype.sum_prod_type]
  simp only [Fin.sum_univ_two, Finset.sum_add_distrib]
  congr 1 <;> refine Finset.sum_congr rfl fun i _ => congrArg h (Fin.ext ?_)

/-- The row offset of trip `k` of the first loop. -/
theorem word64 (k : ℕ) (hk : k < 2) : (Scalar.indexCast (Scalar.muli (Scf.iv 0#32 1#32 k) 64#32)).toNat = 64 * k := by
  interval_cases k <;> rfl

/-- The row offset of trip `k` of the second loop, which starts at row 128. -/
theorem word128 (k : ℕ) (hk : k < 2) :
    (Scalar.indexCast (Scalar.addi 128#32 (Scalar.muli (Scf.iv 0#32 1#32 k) 64#32))).toNat = 128 + 64 * k := by
  interval_cases k <;> rfl

variable (𝒱 : Variants) (c : Dev nD) (bd : Option 𝒱.V) (i : grid0.Coords) (arg1 : Memref sig .tc .vmem S1x128x256 .f32) (harg1 : arg1.IsWhole) (arg2 : Memref sig .tc .vmem S1x256x256 .f32) (harg2 : arg2.IsWhole) (arg3 : Memref sig .tc .vmem S1x128x16 .f32) (harg3 : arg3.IsWhole) (arg4 : Memref sig .tc .vmem S16x256x8 .f32) (harg4 : arg4.IsWhole) (arg5 : Memref sig .tc .vmem S256x256 .f32) (harg5 : arg5.IsWhole)

/-- The smaller of two tokens' features, summed: token `s` read in the transposed copy `Y4`, token `j` in the block `Y1`. -/
def minSum (Y1 : Vec Ideal S1x128x256 .f32) (Y4 : Vec Ideal S16x256x8 .f32) (s j : Fin 256) : EReal :=
  ∑ f : Fin 128, min (Y4 (ix3 ⟨f.val / 8, by omega⟩ s ⟨f.val % 8, by omega⟩)) (Y1 (ix3 0 f j))

set_option maxHeartbeats 4000000 in
/-- Trip `k` of the first loop stores rows `64k … 64k+63`, all columns. -/
theorem topTrip (v1 : FVec Ideal S128x256 .f32) (v64 : FVec Ideal S256x8 .f32)
    (X1 : BufTy.Contents (Elt Ideal) arg1.view.ty) (X4 : BufTy.Contents (Elt Ideal) arg4.view.ty) (k : Fin k0_t1_loop.trips)
    (Y1 : Vec Ideal S1x128x256 .f32) (Y4 : Vec Ideal S16x256x8 .f32)
    (h1 : arg1.view.read _ X1 = Y1) (h4 : arg4.view.read _ X4 = Y4) (hk : k.val < 2) :
    ∃ P, tripL_k0_t1 𝒱 c bd i arg1 harg1 arg2 harg2 arg3 harg3 arg4 harg4 arg5 harg5 v1 v64 X1 X4 k
        = [⟨Rect.unit (k0_off17 k) S64x256.size (k0_off17_inb k), P⟩]
      ∧ ∀ (r : Fin 64) (j : Fin 256), P (ix2 r j) = minSum Y1 Y4 ⟨64 * k.val + r.val, by omega⟩ j := by
  have hw := word64 k.val hk
  unfold tripL_k0_t1 trip_k0_t1
  dsimp only
  sl_unfold_words
  refine ⟨_, rfl, fun r j => ?_⟩
  simp only [View.readAt_eq_ld, h1, h4]
  unfold_payloads
  pointwise [k0_off1, k0_off2, k0_off3, k0_off4, k0_off5, k0_off6, k0_off7, k0_off8, k0_off9, k0_off10, k0_off11, k0_off12, k0_off13, k0_off14, k0_off15, k0_off16, hw]
  rw [minSum, sum_even_odd]
  simp only [Fin.sum_univ_castSucc, Fin.sum_univ_zero, zero_add]
  rfl

set_option maxHeartbeats 4000000 in
/-- Trip `k` of the second loop stores rows `128+64k … 128+64k+63`, columns 128 to 255. -/
theorem botTrip (v1 : FVec Ideal S128x256 .f32) (v64 : FVec Ideal S256x8 .f32)
    (X1 : BufTy.Contents (Elt Ideal) arg1.view.ty) (X4 : BufTy.Contents (Elt Ideal) arg4.view.ty) (k : Fin k0_t2_loop.trips)
    (Y1 : Vec Ideal S1x128x256 .f32) (Y4 : Vec Ideal S16x256x8 .f32)
    (h1 : arg1.view.read _ X1 = Y1) (h4 : arg4.view.read _ X4 = Y4) (hk : k.val < 2) :
    ∃ P, tripL_k0_t2 𝒱 c bd i arg1 harg1 arg2 harg2 arg3 harg3 arg4 harg4 arg5 harg5 v1 v64 X1 X4 k
        = [⟨Rect.unit (k0_off34 k) S64x128.size (k0_off34_inb k), P⟩]
      ∧ ∀ (r : Fin 64) (j : Fin 128), P (ix2 r j) = minSum Y1 Y4 ⟨128 + 64 * k.val + r.val, by omega⟩ ⟨128 + j.val, by omega⟩ := by
  have hw := word128 k.val hk
  unfold tripL_k0_t2 trip_k0_t2
  dsimp only
  sl_unfold_words
  refine ⟨_, rfl, fun r j => ?_⟩
  simp only [View.readAt_eq_ld, h1, h4]
  unfold_payloads
  pointwise [k0_off18, k0_off19, k0_off20, k0_off21, k0_off22, k0_off23, k0_off24, k0_off25, k0_off26, k0_off27, k0_off28, k0_off29, k0_off30, k0_off31, k0_off32, k0_off33, hw]
  rw [minSum, sum_even_odd]
  simp only [Fin.sum_univ_castSucc, Fin.sum_univ_zero, zero_add]
  rfl

end Cert.KMed
end
-- ==== Proof.Clustering.lean ====
module

public import Idealize.ShloMosaic.Lib.SortPrefix
public import Idealize.ShloMosaic.Lib.IdealHost
public import Idealize.ShloMosaic.Lib.Pointwise

/-!
  The mathematics of k-medoids on one batch entry, on extended reals.

  There are 256 tokens and 16 clusters. `D i j` is the distance of two tokens, `w j` the weight of a token. A choice of
  medoids is a function `Fin 16 → Fin 256`. `start w` lists the sixteen heaviest tokens, heaviest first, the earlier one
  where two weigh the same. `assign` sends a token to its nearest medoid, `next` picks in each cluster the member that is
  cheapest to be the medoid; in both the first candidate wins a tie.
-/

@[expose] public section
noncomputable section
namespace Cert.KMed
open Idealize.ShloMosaic

/-! ### The first place where a finite family is least -/

theorem exists_firstMin {n : ℕ} [NeZero n] (g : Fin n → EReal) :
    ∃ i, (∀ j, g i ≤ g j) ∧ ∀ j < i, g i < g j := by
  obtain ⟨i, -, hi⟩ := Finset.exists_min_image (Finset.univ : Finset (Fin n)) (fun i => toLex (g i, i))
    ⟨0, Finset.mem_univ _⟩
  have h : ∀ j, g i < g j ∨ g i = g j ∧ i ≤ j := fun j => by
    have := hi j (Finset.mem_univ j)
    rwa [Prod.Lex.toLex_le_toLex] at this
  refine ⟨i, fun j => ?_, fun j hj => ?_⟩
  · rcases h j with h | ⟨h, -⟩
    · exact h.le
    · exact h.le
  · rcases h j with h | ⟨-, h⟩
    · exact h
    · exact absurd hj (not_lt.mpr h)

/-- The first index at which `g` takes its least value. -/
def firstMin {n : ℕ} [NeZero n] (g : Fin n → EReal) : Fin n := Classical.choose (exists_firstMin g)

variable {n : ℕ} [NeZero n] (g : Fin n → EReal)

theorem firstMin_le (j : Fin n) : g (firstMin g) ≤ g j := (Classical.choose_spec (exists_firstMin g)).1 j

theorem firstMin_lt (j : Fin n) (h : j < firstMin g) : g (firstMin g) < g j :=
  (Classical.choose_spec (exists_firstMin g)).2 j h

/-- The first least index is the only index with its two properties. -/
theorem firstMin_eq (i : Fin n) (h1 : ∀ j, g i ≤ g j) (h2 : ∀ j, g j = g i → i ≤ j) : firstMin g = i := by
  apply le_antisymm
  · by_contra h
    exact absurd (firstMin_lt g i (not_le.mp h)) (not_lt.mpr (h1 _))
  · exact h2 _ (le_antisymm (firstMin_le g i) (h1 _))

/-- A running minimum that starts at infinity ends at the least value. -/
theorem fold_min : Finset.fold min (⊤ : EReal) g Finset.univ = g (firstMin g) := by
  apply le_antisymm
  · exact (Finset.fold_min_le _).mpr (Or.inr ⟨firstMin g, Finset.mem_univ _, le_rfl⟩)
  · exact Finset.le_fold_min _ |>.mpr ⟨le_top, fun j _ => firstMin_le g j⟩

/-! ### The words the programs keep indices in -/

theorem toInt_word (k : ℕ) (h : k < 1024) : (BitVec.ofNat 32 k).toInt = k := by
  rw [BitVec.toInt_eq_toNat_of_lt] <;> simp <;> omega

theorem word_inj {a b : ℕ} (ha : a < 1024) (hb : b < 1024) : BitVec.ofNat 32 a = BitVec.ofNat 32 b ↔ a = b := by
  constructor
  · intro h
    have := congrArg BitVec.toInt h
    rw [toInt_word a ha, toInt_word b hb] at this
    exact_mod_cast this
  · rintro rfl; rfl

theorem slt_word {a b : ℕ} (ha : a < 1024) (hb : b < 1024) : (BitVec.ofNat 32 a).slt (BitVec.ofNat 32 b) = decide (a < b) := by
  rw [BitVec.slt, toInt_word a ha, toInt_word b hb]
  simp

theorem toInt_minsi (a b : BitVec 32) : (IntOp.minsi a b).toInt = min a.toInt b.toInt := by
  unfold IntOp.minsi BitVec.slt
  by_cases h : a.toInt < b.toInt
  · simp [h, min_eq_left h.le]
  · simp [h, min_eq_right (not_lt.mp h)]

/-- A least word found by a running signed minimum: the places holding the least value of `g` keep their index, the
    others hold `n`; the minimum is the first least index. -/
theorem fold_minsi (hn : n < 1024) :
    Finset.fold IntOp.minsi (2147483647#32)
        (fun i : Fin n => if g i = g (firstMin g) then BitVec.ofNat 32 i.val else BitVec.ofNat 32 n) Finset.univ
      = BitVec.ofNat 32 (firstMin g).val := by
  apply BitVec.eq_of_toInt_eq
  have e := Finset.fold_hom (op := IntOp.minsi (w := 32)) (op' := (min : ℤ → ℤ → ℤ)) (m := BitVec.toInt)
    (b := 2147483647#32) (s := Finset.univ)
    (f := fun i : Fin n => if g i = g (firstMin g) then BitVec.ofNat 32 i.val else BitVec.ofNat 32 n)
    toInt_minsi
  have hi : (firstMin g).val < n := (firstMin g).isLt
  rw [← e, toInt_word (firstMin g).val (by omega)]
  apply le_antisymm
  · refine (Finset.fold_min_le _).mpr (Or.inr ⟨firstMin g, Finset.mem_univ _, ?_⟩)
    rw [if_pos rfl, toInt_word (firstMin g).val (by omega)]
  · refine (Finset.le_fold_min _).mpr ⟨?_, fun j _ => ?_⟩
    · have h2 : (2147483647#32 : BitVec 32).toInt = 2147483647 := by decide
      rw [h2]; omega
    · split
      · rename_i h
        have hj := j.isLt
        rw [toInt_word j.val (by omega)]
        have : firstMin g ≤ j := by
          by_contra hc
          exact absurd (firstMin_lt g j (not_le.mp hc)) (by rw [h]; exact lt_irrefl _)
        exact_mod_cast Fin.le_def.mp this
      · rw [toInt_word n hn]
        exact_mod_cast hi.le

/-- One comparison of the host's arg-min: keep the pair with the lesser value, of two equal values the lesser word. -/
def keepLess (a b : EReal × BitVec 32) : EReal × BitVec 32 :=
  if a.1 < b.1 ∨ (a.1 = b.1 ∧ a.2.toInt < b.2.toInt) then a else b

/-- The order in which `keepLess` chooses. -/
def pairLe (a b : EReal × BitVec 32) : Prop := a.1 < b.1 ∨ (a.1 = b.1 ∧ a.2.toInt ≤ b.2.toInt)

theorem pairLe_refl (a : EReal × BitVec 32) : pairLe a a := Or.inr ⟨rfl, le_rfl⟩

theorem pairLe_trans {a b c : EReal × BitVec 32} (h : pairLe a b) (h' : pairLe b c) : pairLe a c := by
  rcases h with h | ⟨h, k⟩ <;> rcases h' with h' | ⟨h', k'⟩
  · exact Or.inl (h.trans h')
  · exact Or.inl (h'  ▸ h)
  · exact Or.inl (h ▸ h')
  · exact Or.inr ⟨h.trans h', k.trans k'⟩

theorem keepLess_spec (a b : EReal × BitVec 32) :
    (keepLess a b = a ∨ keepLess a b = b) ∧ pairLe (keepLess a b) a ∧ pairLe (keepLess a b) b := by
  unfold keepLess
  split
  · rename_i h
    exact ⟨Or.inl rfl, pairLe_refl a, h.imp id fun h => ⟨h.1, h.2.le⟩⟩
  · rename_i h
    refine ⟨Or.inr rfl, ?_, pairLe_refl b⟩
    rw [not_or, not_lt, not_and, not_lt] at h
    rcases h.1.lt_or_eq with h' | h'
    · exact Or.inl h'
    · exact Or.inr ⟨h', h.2 h'.symm⟩

/-- What a fold of `keepLess` ends with: one of the pairs it met, and none it met is less. -/
theorem foldl_keepLess (l : List (EReal × BitVec 32)) (p : EReal × BitVec 32) :
    (l.foldl keepLess p = p ∨ l.foldl keepLess p ∈ l) ∧ pairLe (l.foldl keepLess p) p
      ∧ ∀ q ∈ l, pairLe (l.foldl keepLess p) q := by
  induction l generalizing p with
  | nil => exact ⟨Or.inl rfl, pairLe_refl p, fun q hq => absurd hq List.not_mem_nil⟩
  | cons a l ih =>
    obtain ⟨h1, h2, h3⟩ := ih (keepLess p a)
    obtain ⟨k1, k2, k3⟩ := keepLess_spec p a
    rw [List.foldl_cons]
    refine ⟨?_, pairLe_trans h2 k2, fun q hq => ?_⟩
    · rcases h1 with h1 | h1
      · rcases k1 with k1 | k1
        · exact Or.inl (h1.trans k1)
        · exact Or.inr (by rw [h1, k1]; exact List.mem_cons_self)
      · exact Or.inr (List.mem_cons_of_mem a h1)
    · rcases List.mem_cons.mp hq with rfl | hq
      · exact pairLe_trans h2 k3
      · exact h3 q hq

/-- The host's arg-min over a list that holds exactly the pairs of value and index, in any order, started at infinity
    with index 0, ends with the first least index. -/
theorem argmin_eq (hn : n < 1024) (l : List (EReal × BitVec 32)) (hl : ∀ q, q ∈ l ↔ ∃ i : Fin n, q = (g i, BitVec.ofNat 32 i.val)) :
    (l.foldl keepLess (⊤, 0#32)).2 = BitVec.ofNat 32 (firstMin g).val := by
  obtain ⟨h1, h2, h3⟩ := foldl_keepLess l (⊤, 0#32)
  have key : ∀ i : Fin n, l.foldl keepLess (⊤, 0#32) = (g i, BitVec.ofNat 32 i.val) →
      (l.foldl keepLess (⊤, 0#32)).2 = BitVec.ofNat 32 (firstMin g).val := by
    intro i hi
    have h : firstMin g = i := by
      refine firstMin_eq g i (fun j => ?_) fun j hj => ?_
      · have := h3 _ ((hl _).mpr ⟨j, rfl⟩)
        rw [hi] at this
        rcases this with h | ⟨h, -⟩
        · exact h.le
        · exact h.le
      · have := h3 _ ((hl _).mpr ⟨j, rfl⟩)
        rw [hi] at this
        rcases this with h | ⟨-, h⟩
        · exact absurd hj (ne_of_gt h)
        · simp only at h
          rw [toInt_word _ (by omega), toInt_word _ (by omega)] at h
          exact_mod_cast h
    rw [hi, h]
  rcases h1 with h1 | h1
  · have h0 : g 0 = ⊤ := by
      have := h3 _ ((hl _).mpr ⟨0, rfl⟩)
      rw [h1] at this
      rcases this with h | ⟨h, -⟩
      · exact absurd h not_top_lt
      · exact h.symm
    refine key 0 ?_
    rw [h1, h0]; rfl
  · obtain ⟨i, hi⟩ := (hl _).mp h1
    exact key i hi

/-! ### The sixteen heaviest tokens -/

/-- Token `l` comes before token `s`: it weighs more, or the same and stands earlier. -/
def heavier (w : Fin 256 → EReal) (l s : Fin 256) : Prop := w s < w l ∨ (w s = w l ∧ l < s)

theorem heavier_irrefl (w : Fin 256 → EReal) (s : Fin 256) : ¬ heavier w s s := by
  rintro (h | ⟨-, h⟩) <;> exact lt_irrefl _ h

theorem heavier_trans (w : Fin 256 → EReal) {a b c : Fin 256} (h : heavier w a b) (h' : heavier w b c) : heavier w a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

theorem heavier_total (w : Fin 256 → EReal) {a b : Fin 256} (h : a ≠ b) : heavier w a b ∨ heavier w b a := by
  rcases lt_trichotomy (w a) (w b) with k | k | k
  · exact Or.inr (Or.inl k)
  · rcases lt_or_gt_of_ne h with m | m
    · exact Or.inl (Or.inr ⟨k.symm, m⟩)
    · exact Or.inr (Or.inr ⟨k, m⟩)
  · exact Or.inl (Or.inl k)

open Classical in
/-- The tokens that come before `s`. -/
def ahead (w : Fin 256 → EReal) (s : Fin 256) : Finset (Fin 256) := Finset.univ.filter fun l => heavier w l s

theorem mem_ahead (w : Fin 256 → EReal) (l s : Fin 256) : l ∈ ahead w s ↔ heavier w l s := by simp [ahead]

theorem ahead_ssubset (w : Fin 256 → EReal) {a b : Fin 256} (h : heavier w a b) : ahead w a ⊂ ahead w b := by
  refine Finset.ssubset_iff_subset_ne.mpr ⟨fun l hl => ?_, fun e => ?_⟩
  · exact (mem_ahead w l b).mpr (heavier_trans w ((mem_ahead w l a).mp hl) h)
  · exact heavier_irrefl w a ((mem_ahead w a a).mp (e ▸ (mem_ahead w a b).mpr h))

/-- The number of tokens that come before `s`. -/
def rank (w : Fin 256 → EReal) (s : Fin 256) : Fin 256 :=
  ⟨(ahead w s).card, by
    refine lt_of_lt_of_eq (Finset.card_lt_card (Finset.ssubset_univ_iff.mpr fun e => ?_)) (by simp : (Finset.univ : Finset (Fin 256)).card = 256)
    exact heavier_irrefl w s ((mem_ahead w s s).mp (e ▸ Finset.mem_univ s))⟩

theorem rank_lt (w : Fin 256 → EReal) {a b : Fin 256} (h : heavier w a b) : rank w a < rank w b :=
  Finset.card_lt_card (ahead_ssubset w h)

theorem rank_bijective (w : Fin 256 → EReal) : Function.Bijective (rank w) := by
  refine (Fintype.bijective_iff_injective_and_card _).mpr ⟨fun a b h => ?_, rfl⟩
  by_contra hne
  rcases heavier_total w hne with k | k
  · exact absurd h (ne_of_lt (rank_lt w k))
  · exact absurd h (ne_of_gt (rank_lt w k))

/-- The `c`-th heaviest token. -/
def start (w : Fin 256 → EReal) (c : Fin 16) : Fin 256 :=
  (Equiv.ofBijective (rank w) (rank_bijective w)).symm (c.castLE (by omega))

theorem rank_start (w : Fin 256 → EReal) (c : Fin 16) : rank w (start w c) = c.castLE (by omega) :=
  (Equiv.ofBijective (rank w) (rank_bijective w)).apply_symm_apply _

theorem rank_eq_iff (w : Fin 256 → EReal) (s : Fin 256) (c : Fin 16) : (rank w s).val = c.val ↔ s = start w c := by
  constructor
  · intro h
    refine (rank_bijective w).1 ?_
    rw [rank_start]; exact Fin.ext h
  · rintro rfl; rw [rank_start]; rfl

/-- Two relations that agree whenever the second element stands before the first sort an increasing list alike: the
    sort asks only whether an element is before one that stands earlier in the list. -/
theorem stableSort_of_later {N : ℕ} (R R' : Fin N → Fin N → Bool) (l : List (Fin N)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same of the positions the sort puts in order. -/
theorem sortedFrom_of_later {N : ℕ} (R R' : Fin N → Fin N → Bool) (h : ∀ a b, a < b → R b a = R' b a) :
    sortedFrom R = sortedFrom R' := by
  have e : sortPositions N R = sortPositions N R' := stableSort_of_later _ _ _ (List.pairwise_lt_finRange N) h
  funext k
  unfold sortedFrom
  rw [List.get_of_eq e]
  rfl

open Classical in
/-- A stable sort by weight, heaviest first, begins with the sixteen heaviest tokens. -/
theorem sorted_start (w : Fin 256 → EReal) (R : Fin 256 → Fin 256 → Bool) (hR : ∀ a b, R a b = decide (w b < w a)) (c : Fin 16) :
    sortedFrom R (c.castLE (by omega)) = start w c := by
  have e' : sortedFrom R = sortedFrom fun k k' : Fin 256 => decide (heavier w k k') :=
    sortedFrom_of_later _ _ fun a b hab => by rw [hR]; simp [heavier, not_lt.mpr hab.le]
  rw [e']
  have hB : StrictTotalBefore fun k k' : Fin 256 => decide (heavier w k k') :=
    ⟨fun a => by simpa using heavier_irrefl w a,
      fun a b c h h' => by simpa using heavier_trans w (by simpa using h) (by simpa using h'),
      fun a b h => by simpa using heavier_total w h⟩
  refine hB.sortedFrom_eq_of_prefix (by omega) (start w) (fun a b h => ?_) (fun i j hij => ?_) (fun i p hp => ?_) c
  · have := (rank_start w a).symm.trans ((congrArg (rank w) h).trans (rank_start w b))
    exact Fin.castLE_injective (by omega) this
  · rw [decide_eq_false_iff_not]
    intro h
    have := rank_lt w h
    rw [rank_start, rank_start] at this
    exact absurd hij (not_lt.mpr (Fin.le_def.mpr (Fin.lt_def.mp this).le))
  · rw [decide_eq_false_iff_not]
    intro h
    have := rank_lt w h
    rw [rank_start] at this
    have hlt : (rank w p).val < 16 := lt_trans (Fin.lt_def.mp this) i.isLt
    exact hp ⟨(rank w p).val, hlt⟩ (((rank_eq_iff w p ⟨_, hlt⟩).mp rfl).symm)

/-! ### The steps -/

/-- The cluster of token `i`: that of the nearest medoid. -/
def assign (D : Fin 256 → Fin 256 → EReal) (ctr : Fin 16 → Fin 256) (i : Fin 256) : Fin 16 := firstMin fun c => D i (ctr c)

/-- The price of token `i` as medoid of cluster `c`: the weighted distances to the cluster's members; infinite for a
    token outside the cluster. -/
def cost (D : Fin 256 → Fin 256 → EReal) (w : Fin 256 → EReal) (ctr : Fin 16 → Fin 256) (c : Fin 16) (i : Fin 256) : EReal :=
  if assign D ctr i = c then ∑ j, D i j * (if assign D ctr j = c then w j else 0) else ⊤

/-- The medoids of the next round. -/
def next (D : Fin 256 → Fin 256 → EReal) (w : Fin 256 → EReal) (ctr : Fin 16 → Fin 256) (c : Fin 16) : Fin 256 :=
  firstMin (cost D w ctr c)

/-- The medoids after three rounds. -/
def medoids (D : Fin 256 → Fin 256 → EReal) (w : Fin 256 → EReal) : Fin 16 → Fin 256 :=
  next D w (next D w (next D w (start w)))

/-- The sum of absolute differences of two tokens' features. -/
def dist (x : Fin 128 → Fin 256 → EReal) (i j : Fin 256) : EReal := ∑ f, max (x f i - x f j) (-(x f i - x f j))

/-- The mean of a column. -/
def colMean (w : Fin 256 → Fin 256 → EReal) (s : Fin 256) : EReal :=
  Ideal.div (∑ r, w r s) (Ideal.ofBits .f32 0x43800000#32)

/-- The result for one batch entry: the features of the chosen tokens. -/
def chosen (x : Fin 128 → Fin 256 → EReal) (w : Fin 256 → Fin 256 → EReal) (f : Fin 128) (c : Fin 16) : EReal :=
  x f (medoids (dist x) (colMean w) c)

/-- For real numbers the sum of absolute differences is both sums less twice the sum of the smaller numbers. -/
theorem dist_eq (x : Fin 128 → Fin 256 → EReal) (hx : ∀ f s, x f s ≠ ⊤ ∧ x f s ≠ ⊥) (i j : Fin 256) :
    (∑ f, x f i) + (∑ f, x f j) - 2 * ∑ f, min (x f i) (x f j) = dist x i j := by
  have hr : ∀ f s, x f s = (((x f s).toReal : ℝ) : EReal) := fun f s => (EReal.coe_toReal (hx f s).1 (hx f s).2).symm
  unfold dist
  have hcoe : ∀ (h : Fin 128 → ℝ), ∑ f, ((h f : ℝ) : EReal) = ((∑ f, h f : ℝ) : EReal) := fun h =>
    (map_sum (⟨⟨Real.toEReal, EReal.coe_zero⟩, EReal.coe_add⟩ : ℝ →+ EReal) h Finset.univ).symm
  have hmin : ∀ f, min (x f i) (x f j) = ((min (x f i).toReal (x f j).toReal : ℝ) : EReal) := fun f => by
    conv_lhs => rw [hr f i, hr f j]
    exact (EReal.coe_strictMono.monotone.map_min).symm
  have habs : ∀ f, max (x f i - x f j) (-(x f i - x f j)) = ((|(x f i).toReal - (x f j).toReal| : ℝ) : EReal) := fun f => by
    conv_lhs => rw [hr f i, hr f j]
    rw [← EReal.coe_sub, ← EReal.coe_neg]
    exact (EReal.coe_strictMono.monotone.map_max).symm
  rw [Finset.sum_congr rfl fun f _ => hr f i, Finset.sum_congr rfl fun f _ => hr f j,
    Finset.sum_congr rfl fun f _ => hmin f, Finset.sum_congr rfl fun f _ => habs f, hcoe, hcoe, hcoe, hcoe]
  rw [show (2 : EReal) = ((2 : ℝ) : EReal) from rfl, ← EReal.coe_mul, ← EReal.coe_add, ← EReal.coe_sub]
  congr 1
  rw [Finset.mul_sum, ← Finset.sum_add_distrib, ← Finset.sum_sub_distrib]
  refine Finset.sum_congr rfl fun f _ => ?_
  rcases le_total (x f i).toReal (x f j).toReal with h | h
  · rw [min_eq_left h, abs_of_nonpos (by linarith)]; ring
  · rw [min_eq_right h, abs_of_nonneg (by linarith)]; ring

end Cert.KMed
-- ==== Proof.KRound.lean ====
module

public import proofs.«01_k».proof.Proof.Gen.KernelIdeal.Loops
public import proofs.«01_k».proof.Proof.Clustering

/-!
  What the kernel computes outside its distance loops, read at an index: the token weights, the first medoids, one
  round of the medoid loop, the final selection.
-/

@[expose] public section
set_option maxRecDepth 16384
noncomputable section
namespace Cert.KMed
open Idealize.ShloMosaic Idealize.ShloMosaic.TcCoe Idealize.ShloMosaic.Tactic
open Cert.KernelIdeal Cert.KernelIdeal.Gen

theorem ofBits_inf : Ideal.ofBits .f32 2139095040#32 = ⊤ := by
  simp [Ideal.ofBits, Ideal.ieee]

theorem ofBits_two : Ideal.ofBits .f32 1073741824#32 = 2 := by
  have : (8388608 : ℝ) * (2 ^ 22)⁻¹ = 2 := by norm_num
  simp [Ideal.ofBits, Ideal.ieee]
  rw [← EReal.coe_mul, this]
  rfl

/-- The number that the kernel makes from a truth value. -/
theorem number_of_truth (b : Bool) :
    (FloatOps.sitofp (F := Ideal) .f32 (BitVec.setWidth 32 (BitVec.ofBool b)) : EReal) = if b = true then 1 else 0 := by
  show (((BitVec.setWidth 32 (BitVec.ofBool b)).toInt : ℝ) : EReal) = _
  cases b
  · have : (BitVec.setWidth 32 (BitVec.ofBool false)).toInt = 0 := by decide
    rw [this]; simp
  · have : (BitVec.setWidth 32 (BitVec.ofBool true)).toInt = 1 := by decide
    rw [this]; simp

/-- The number that the kernel makes from a small word. -/
theorem number_of_word {a : ℕ} (ha : a < 1024) :
    (FloatOps.sitofp (F := Ideal) .f32 (BitVec.ofNat 32 a) : EReal) = ((a : ℝ) : EReal) := by
  show (((BitVec.ofNat 32 a).toInt : ℝ) : EReal) = _
  rw [toInt_word a ha]; rfl

/-- The number 1 where a word equals another and 0 elsewhere, as the kernel makes it. -/
theorem oneHot_word {a b : ℕ} (ha : a < 1024) (hb : b < 1024) :
    (FloatOps.sitofp (F := Ideal) .f32 (BitVec.setWidth 32 (IntOp.cmpi .eq (BitVec.ofNat 32 a) (BitVec.ofNat 32 b))) : EReal)
      = if a = b then 1 else 0 := by
  have e : IntOp.cmpi .eq (BitVec.ofNat 32 a) (BitVec.ofNat 32 b) = BitVec.ofBool (decide (a = b)) := by
    by_cases h : a = b
    · subst h; simp [IntOp.cmpi]
    · have := mt (word_inj ha hb).mp h
      simp [IntOp.cmpi, h, beq_eq_false_iff_ne.mpr this]
  rw [e, number_of_truth]
  simp

/-- A sum against the indicator of one index is the term there. -/
theorem sum_pick {n : ℕ} (a : Fin n → EReal) (t : Fin n) : ∑ x, a x * (if x.val = t.val then (1 : EReal) else 0) = a t := by
  rw [Finset.sum_eq_single t]
  · simp
  · intro x _ hx
    rw [if_neg (fun h => hx (Fin.ext h)), mul_zero]
  · intro h; exact absurd (Finset.mem_univ t) h

/-- The first part of a round: the distances of the tokens to the medoids. -/
def toMedoids (v135 : IVec S256x1 32) (arg7 : IVec S1x16 32) (v150 : Vec Ideal S256x256 .f32) : FVec Ideal S256x16 .f32 :=
  matmul (φ₁ := .f32) (φ₂ := .f32) dot_S256x256_S256x16_S256x16_1_0_0_1_n_n (some .fp32) v150
    (sitofp .f32 (extui 32 (cmpi .eq (broadcastTo S256x16 v135 broadcasts_S256x1_S256x16) (broadcastTo S256x16 arg7 broadcasts_S1x16_S256x16)) natLt_1_32))
    (constant S256x16 .f32 0x00000000#32)

/-- The second part: the nearest medoid of each token. -/
def nearest (v136 : IVec S256x16 32) (v156 : FVec Ideal S256x16 .f32) : IVec S256x1 32 :=
  shapeCast S256x1 (multiReductionI .minsi [1] S256
    (select (cmpf .oeq v156 (broadcastTo S256x16 (shapeCast S256x1 (multiReduction .minimumf [1] S256 v156 0x7F800000#32 reduces_S256x16_S256 (.inl rfl) rfl) shapeCasts_S256_S256x1) broadcasts_S256x1_S256x16))
      v136 (broadcast S256x16 16#32)) 2147483647#32 reduces_S256x16_S256 rfl) shapeCasts_S256_S256x1

/-- The membership of the tokens in the clusters. -/
def member (v136 : IVec S256x16 32) (v164 : IVec S256x1 32) : FVec Ideal S256x16 .f32 :=
  sitofp .f32 (extui 32 (cmpi .eq (broadcastTo S256x16 v164 broadcasts_S256x1_S256x16) v136) natLt_1_32)

/-- The third part: the price of each token as a medoid. -/
def prices (v138 : FVec Ideal S256x1 .f32) (v168 : FVec Ideal S256x16 .f32) (v150 : Vec Ideal S256x256 .f32) : FVec Ideal S256x16 .f32 :=
  select (cmpf .ogt v168 (broadcast S256x16 (Scalar.ofBits .f32 0x00000000#32)))
    (matmul (φ₁ := .f32) (φ₂ := .f32) dot_S256x256_S256x16_S256x16_1_0_0_1_n_n none v150 (mulf v168 (broadcastTo S256x16 v138 broadcasts_S256x1_S256x16)) (constant S256x16 .f32 0x00000000#32))
    (broadcast S256x16 (Scalar.ofBits .f32 0x7F800000#32))

/-- The last part: the cheapest token of each cluster. -/
def cheapest (v137 : IVec S256x16 32) (v175 : FVec Ideal S256x16 .f32) : IVec S1x16 32 :=
  shapeCast S1x16 (multiReductionI .minsi [0] S16
    (select (cmpf .oeq v175 (broadcastTo S256x16 (shapeCast S1x16 (multiReduction .minimumf [0] S16 v175 0x7F800000#32 reduces_S256x16_S16 (.inl rfl) rfl) shapeCasts_S16_S1x16) broadcasts_S1x16_S256x16))
      v137 (broadcast S256x16 256#32)) 2147483647#32 reduces_S256x16_S16 rfl) shapeCasts_S16_S1x16

set_option maxHeartbeats 4000000 in
/-- A round is these four parts. -/
theorem round_eq (v135 : IVec S256x1 32) (v136 v137 : IVec S256x16 32) (v138 : FVec Ideal S256x1 .f32) (arg7 : IVec S1x16 32)
    (v150 : Vec Ideal S256x256 .f32) :
    k0_pay1 v135 v136 v137 v138 arg7 v150
      = cheapest v137 (prices v138 (member v136 (nearest v136 (toMedoids v135 arg7 v150))) v150) := by
  unfold k0_pay1 cheapest prices member nearest toMedoids
  rfl

/-- The distance of token `i` to the medoid of cluster `c`. -/
theorem toMedoids_apply (v135 : IVec S256x1 32) (arg7 : IVec S1x16 32) (v150 : Vec Ideal S256x256 .f32) (ctr : Fin 16 → Fin 256)
    (h135 : ∀ s : Fin 256, v135 (ix2 s 0) = BitVec.ofNat 32 s.val) (h7 : ∀ c, arg7 (ix2 0 c) = BitVec.ofNat 32 (ctr c).val)
    (i : Fin 256) (c : Fin 16) :
    toMedoids v135 arg7 v150 (ix2 i c) = v150 (ix2 i (ctr c)) := by
  unfold toMedoids
  pointwise [dot_S256x256_S256x16_S256x16_1_0_0_1_n_n]
  rw [← sum_pick (fun x => v150 (ix2 i x)) (ctr c)]
  refine Finset.sum_congr rfl fun x _ => ?_
  rw [h135, h7, oneHot_word (by omega) (by omega)]

/-- The nearest medoid of token `i`, the first of several. -/
theorem nearest_apply (v136 : IVec S256x16 32) (G : FVec Ideal S256x16 .f32)
    (h136 : ∀ (s : Fin 256) (c : Fin 16), v136 (ix2 s c) = BitVec.ofNat 32 c.val) (i : Fin 256) :
    nearest v136 G (ix2 i 0) = BitVec.ofNat 32 (firstMin fun c : Fin 16 => G (ix2 i c)).val := by
  unfold nearest
  pointwise
  simp only [h136, ofBits_inf, fold_min fun c : Fin 16 => G (ix2 i c)]
  exact fold_minsi (fun c : Fin 16 => G (ix2 i c)) (by decide)

/-- Token `i` is a member of cluster `c`. -/
theorem member_apply (v136 : IVec S256x16 32) (v164 : IVec S256x1 32) (a : Fin 256 → Fin 16)
    (h136 : ∀ (s : Fin 256) (c : Fin 16), v136 (ix2 s c) = BitVec.ofNat 32 c.val)
    (h164 : ∀ s, v164 (ix2 s 0) = BitVec.ofNat 32 (a s).val) (i : Fin 256) (c : Fin 16) :
    member v136 v164 (ix2 i c) = if a i = c then 1 else 0 := by
  unfold member
  pointwise
  rw [h136, h164, oneHot_word (by omega) (by omega)]
  simp only [Fin.ext_iff]

/-- The price of token `i` in cluster `c`. -/
theorem prices_apply (v138 : FVec Ideal S256x1 .f32) (v168 : FVec Ideal S256x16 .f32) (v150 : Vec Ideal S256x256 .f32)
    (a : Fin 256 → Fin 16) (h168 : ∀ i c, v168 (ix2 i c) = if a i = c then 1 else 0) (i : Fin 256) (c : Fin 16) :
    prices v138 v168 v150 (ix2 i c)
      = if a i = c then ∑ j, v150 (ix2 i j) * (if a j = c then v138 (ix2 j 0) else 0) else ⊤ := by
  unfold prices
  pointwise [dot_S256x256_S256x16_S256x16_1_0_0_1_n_n]
  simp only [h168, ofBits_inf]
  by_cases h : a i = c
  · simp [h, ite_mul]
  · simp [h]

/-- The cheapest token of cluster `c`, the first of several. -/
theorem cheapest_apply (v137 : IVec S256x16 32) (G : FVec Ideal S256x16 .f32)
    (h137 : ∀ (s : Fin 256) (c : Fin 16), v137 (ix2 s c) = BitVec.ofNat 32 s.val) (c : Fin 16) :
    cheapest v137 G (ix2 0 c) = BitVec.ofNat 32 (firstMin fun i : Fin 256 => G (ix2 i c)).val := by
  unfold cheapest
  pointwise
  simp only [h137, ofBits_inf, fold_min fun i : Fin 256 => G (ix2 i c)]
  exact fold_minsi (fun i : Fin 256 => G (ix2 i c)) (by decide)

/-- One round of the medoid loop. -/
theorem round_apply (v135 : IVec S256x1 32) (v136 v137 : IVec S256x16 32) (v138 : FVec Ideal S256x1 .f32) (arg7 : IVec S1x16 32)
    (v150 : Vec Ideal S256x256 .f32) (D : Fin 256 → Fin 256 → EReal) (w : Fin 256 → EReal) (ctr : Fin 16 → Fin 256)
    (h135 : ∀ s : Fin 256, v135 (ix2 s 0) = BitVec.ofNat 32 s.val)
    (h136 : ∀ (s : Fin 256) (c : Fin 16), v136 (ix2 s c) = BitVec.ofNat 32 c.val)
    (h137 : ∀ (s : Fin 256) (c : Fin 16), v137 (ix2 s c) = BitVec.ofNat 32 s.val)
    (h138 : ∀ s, v138 (ix2 s 0) = w s) (h150 : ∀ i j, v150 (ix2 i j) = D i j)
    (h7 : ∀ c, arg7 (ix2 0 c) = BitVec.ofNat 32 (ctr c).val) (c : Fin 16) :
    k0_pay1 v135 v136 v137 v138 arg7 v150 (ix2 0 c) = BitVec.ofNat 32 (next D w ctr c).val := by
  have ha : ∀ s, nearest v136 (toMedoids v135 arg7 v150) (ix2 s 0) = BitVec.ofNat 32 (assign D ctr s).val := fun s => by
    rw [nearest_apply v136 _ h136 s]
    simp only [toMedoids_apply v135 arg7 v150 ctr h135 h7, h150]
    rfl
  rw [round_eq, cheapest_apply v137 _ h137]
  congr 3
  funext i
  rw [prices_apply v138 _ v150 (assign D ctr) (member_apply v136 _ (assign D ctr) h136 ha)]
  simp only [h150, h138]
  rfl

/-- The weight of token `s`: the mean of column `s`. -/
theorem weights_apply (w : Vec Ideal S1x256x256 .f32) (s : Fin 256) :
    k0_pay170 w (ix2 0 s) = colMean (fun r s => w (ix3 0 r s)) s := by
  unfold_payloads
  pointwise
  rfl

theorem wcol_apply (w : FVec Ideal S1x256 .f32) (s : Fin 256) : k0_pay195 w (ix2 s 0) = w (ix2 0 s) := by
  unfold_payloads
  pointwise

/-- A sum of indicators counts. -/
theorem sum_truth {n : ℕ} (p : Fin n → Prop) [DecidablePred p] :
    ∑ x, (if p x then (1 : EReal) else 0) = (((Finset.univ.filter p).card : ℝ) : EReal) := by
  rw [Finset.sum_ite, Finset.sum_const_zero, add_zero, Finset.sum_const, nsmul_one]
  rfl

theorem fptosi_word {a : ℕ} (ha : a < 1024) : Ideal.fptosi 32 ((a : ℝ) : EReal) = BitVec.ofNat 32 a := by
  have h : Ideal.toIntClamped (-(2 ^ (32 - 1) : Nat)) ((2 ^ (32 - 1) : Nat) - 1) ((a : ℝ) : EReal) = (a : ℤ) := by
    show max _ (min _ (if 0 ≤ (a : ℝ) then ⌊(a : ℝ)⌋ else ⌈(a : ℝ)⌉)) = (a : ℤ)
    rw [if_pos (Nat.cast_nonneg a), Int.floor_natCast]
    have h1 : (a : ℤ) < 1024 := by exact_mod_cast ha
    have h2 : (0 : ℤ) ≤ a := Int.natCast_nonneg a
    norm_num
    omega
  unfold Ideal.fptosi
  rw [h]
  exact BitVec.ofInt_natCast 32 a

/-- The first medoids: the heaviest tokens. -/
theorem first_apply (v7 : FVec Ideal S1x256 .f32) (w : Fin 256 → EReal) (h : ∀ s, v7 (ix2 0 s) = w s) (c : Fin 16) :
    k0_pay194 v7 (ix2 0 c) = BitVec.ofNat 32 (start w c).val := by
  classical
  have hb : ∀ l s : Fin 256, (IntOp.ori (BitVec.ofBool (decide (w s < w l)))
      (IntOp.andi (BitVec.ofBool (decide (w l = w s)))
        (IntOp.cmpi CmpIPredicate.slt (BitVec.ofNat 32 l.val) (BitVec.ofNat 32 s.val)))) = BitVec.ofBool (decide (heavier w l s)) := by
    intro l s
    have e : IntOp.cmpi CmpIPredicate.slt (BitVec.ofNat 32 l.val) (BitVec.ofNat 32 s.val) = BitVec.ofBool (decide (l < s)) := by
      show BitVec.ofBool ((BitVec.ofNat 32 l.val).slt (BitVec.ofNat 32 s.val)) = _
      rw [slt_word (by omega) (by omega)]; rfl
    rw [e]
    by_cases h1 : w s < w l <;> by_cases h2 : w l = w s <;> by_cases h3 : l < s <;>
      simp [heavier, h1, h2, h3, eq_comm, IntOp.ori, IntOp.andi]
  have hr : ∀ x : Fin 256, (∑ l : Fin 256, if heavier w l x then (1 : EReal) else 0) = (((rank w x).val : ℝ) : EReal) := fun x => by
    rw [sum_truth]
    rfl
  unfold_payloads
  pointwise [dot_S256x256_S256x1_S256x1_1_0_0_1_n_n, dot_S1x256_S256x16_S1x16_1_0_0_1_n_n]
  simp only [h, hb, number_of_truth, decide_eq_true_eq, hr]
  have e : ∀ x : Fin 256, ((((rank w x).val : ℝ) : EReal) = FloatOps.sitofp (F := Ideal) .f32 (BitVec.ofNat 32 c.val)) ↔ x.val = (start w c).val := fun x => by
    rw [number_of_word (by omega), ← Fin.ext_iff, ← rank_eq_iff w x c]
    constructor
    · intro h
      exact_mod_cast (EReal.coe_injective h)
    · intro h; rw [h]
  simp only [e]
  rw [sum_pick, number_of_word (by omega)]
  exact fptosi_word (by omega)

/-- The features of the chosen tokens. -/
theorem out_apply (v1 : FVec Ideal S128x256 .f32) (v135 : IVec S256x1 32) (v140 : IVec S1x16 32) (ctr : Fin 16 → Fin 256)
    (h135 : ∀ s : Fin 256, v135 (ix2 s 0) = BitVec.ofNat 32 s.val) (h140 : ∀ c, v140 (ix2 0 c) = BitVec.ofNat 32 (ctr c).val)
    (f : Fin 128) (c : Fin 16) :
    k0_pay2 v1 v135 v140 (ix3 0 f c) = v1 (ix2 f (ctr c)) := by
  unfold_payloads
  pointwise [dot_S128x256_S256x16_S128x16_1_0_0_1_n_n]
  rw [← sum_pick (fun x => v1 (ix2 f x)) (ctr c)]
  refine Finset.sum_congr rfl fun x _ => ?_
  rw [h135, h140, oneHot_word (by omega) (by omega)]

/-- The distances, from the summed minima. -/
theorem d_apply (v1 : FVec Ideal S128x256 .f32) (v101 : Vec Ideal S256x256 .f32) (i j : Fin 256) :
    k0_pay193 v1 v101 (ix2 i j) = (∑ f, v1 (ix2 f i)) + (∑ f, v1 (ix2 f j)) - 2 * v101 (ix2 i j) := by
  unfold_payloads
  pointwise
  rw [ofBits_two]

end Cert.KMed
-- ==== Proof.KScratch.lean ====
module

public import proofs.«01_k».proof.Proof.DistTrips
public import proofs.«01_k».proof.Proof.KRound

/-!
  What the kernel's two scratch buffers hold: the first one the sixteen groups of eight features, each transposed; the
  second one, after the two distance loops and the copy of the transposed block, the sum of the smaller features of
  every two tokens; after its last store, the distances.
-/

@[expose] public section
set_option maxRecDepth 16384
noncomputable section
namespace Cert.KMed
open Idealize.ShloMosaic Idealize.ShloMosaic.TcCoe Idealize.ShloMosaic.Tactic
open Cert.KernelIdeal Cert.KernelIdeal.Gen

/-- The sixteen stores into the first scratch buffer, the last one first. -/
def copies (x : Vec Ideal S1x128x256 .f32) : List (View.Piece (Elt Ideal) S16x256x8 .f32) :=
  [⟨Rect.unit ![15, 0, 0] S1x256x8.size inb_S16x256x8_S1x256x8_15_0_0, k0_pay188 (k0_pay169 x)⟩,
   ⟨Rect.unit ![14, 0, 0] S1x256x8.size inb_S16x256x8_S1x256x8_14_0_0, k0_pay187 (k0_pay169 x)⟩,
   ⟨Rect.unit ![13, 0, 0] S1x256x8.size inb_S16x256x8_S1x256x8_13_0_0, k0_pay186 (k0_pay169 x)⟩,
   ⟨Rect.unit ![12, 0, 0] S1x256x8.size inb_S16x256x8_S1x256x8_12_0_0, k0_pay185 (k0_pay169 x)⟩,
   ⟨Rect.unit ![11, 0, 0] S1x256x8.size inb_S16x256x8_S1x256x8_11_0_0, k0_pay184 (k0_pay183 (k0_pay169 x))⟩,
   ⟨Rect.unit ![10, 0, 0] S1x256x8.size inb_S16x256x8_S1x256x8_10_0_0, k0_pay182 (k0_pay169 x)⟩,
   ⟨Rect.unit ![9, 0, 0] S1x256x8.size inb_S16x256x8_S1x256x8_9_0_0, k0_pay181 (k0_pay169 x)⟩,
   ⟨Rect.unit ![8, 0, 0] S1x256x8.size inb_S16x256x8_S1x256x8_8_0_0, k0_pay180 (k0_pay169 x)⟩,
   ⟨Rect.unit ![7, 0, 0] S1x256x8.size inb_S16x256x8_S1x256x8_7_0_0, k0_pay179 (k0_pay169 x)⟩,
   ⟨Rect.unit ![6, 0, 0] S1x256x8.size inb_S16x256x8_S1x256x8_6_0_0, k0_pay178 (k0_pay169 x)⟩,
   ⟨Rect.unit ![5, 0, 0] S1x256x8.size inb_S16x256x8_S1x256x8_5_0_0, k0_pay177 (k0_pay169 x)⟩,
   ⟨Rect.unit ![4, 0, 0] S1x256x8.size inb_S16x256x8_S1x256x8_4_0_0, k0_pay176 (k0_pay175 x)⟩,
   ⟨Rect.unit ![3, 0, 0] S1x256x8.size inb_S16x256x8_S1x256x8_3_0_0, k0_pay174 x⟩,
   ⟨Rect.unit ![2, 0, 0] S1x256x8.size inb_S16x256x8_S1x256x8_2_0_0, k0_pay173 x⟩,
   ⟨Rect.unit ![1, 0, 0] S1x256x8.size inb_S16x256x8_S1x256x8_1_0_0, k0_pay172 x⟩,
   ⟨Rect.unit ![0, 0, 0] S1x256x8.size inb_S16x256x8_S1x256x8_0_0_0, k0_pay171 x⟩]

/-- Feature `8g + u` of token `s`, at `(g, s, u)`. -/
def grouped (x : Vec Ideal S1x128x256 .f32) : Vec Ideal S16x256x8 .f32 :=
  fun y => x (ix3 0 ⟨8 * (y 0).val + (y 2).val, by have h0 : (y 0).val < 16 := (y 0).isLt; have h2 : (y 2).val < 8 := (y 2).isLt; omega⟩ (y 1))

/-- What the block that starts at group `g` has to hold. -/
theorem grouped_emb (x : Vec Ideal S1x128x256 .f32) (g : ℕ) (inb : ∀ a, (![g, 0, 0] : Fin 3 → ℕ) a + S1x256x8.size a ≤ S16x256x8.size a)
    (a : Fin 1) (s : Fin 256) (u : Fin 8) (v : Fin 128) (hv : v.val = 8 * g + u.val) :
    x (ix3 0 v s) = grouped x ((Rect.unit (s := S16x256x8) ![g, 0, 0] S1x256x8.size inb).emb (ix3 a s u)) := by
  show x _ = x _
  congr 2
  · refine Fin.ext ?_
    show v.val = 8 * (g + 1 * a.val) + (0 + 1 * u.val)
    omega
  · refine Fin.ext ?_
    show s.val = 0 + 1 * s.val
    omega

set_option maxHeartbeats 4000000 in
/-- Every one of the sixteen stores puts the features there in that order. -/
theorem copies_eq (x : Vec Ideal S1x128x256 .f32) :
    ∀ p ∈ copies x, ∀ y : p.1.shape.Idx, p.2 y = grouped x (p.1.emb y) := by
  simp only [copies, List.forall_mem_cons, List.not_mem_nil, false_imp_iff, implies_true, and_true]
  refine ⟨?_, ?_, ?_, ?_, ?_, ?_, ?_, ?_, ?_, ?_, ?_, ?_, ?_, ?_, ?_, ?_⟩ <;> intro y <;>
    obtain ⟨a, s, u, rfl⟩ : ∃ (a : Fin 1) (s : Fin 256) (u : Fin 8), y = ix3 a s u := ⟨y 0, y 1, y 2, eq_ix3 y⟩ <;>
    unfold_payloads <;> pointwise
  all_goals exact grouped_emb x _ _ a s u _ (by first | rfl | exact (Nat.zero_add _).symm)

/-- The first scratch buffer after the sixteen stores, over any contents. -/
theorem read_copies {arg4 : Memref sig .tc .vmem S16x256x8 .f32} (f : BufTy.Contents (Elt Ideal) arg4.view.ty)
    (x : Vec Ideal S1x128x256 .f32) :
    arg4.view.read (Elt Ideal) (arg4.view.writes (Elt Ideal) f (copies x)) = grouped x :=
  funext fun y => View.read_writes_apply_of_pieces arg4.view f (grouped x) (copies x) (copies_eq x) y
    (View.cover_of_tiled (copies x) S1x256x8.size (by rfl) y)

/-- The sum of the smaller features of two tokens. -/
def common (x : Vec Ideal S1x128x256 .f32) (i j : Fin 256) : EReal := ∑ f : Fin 128, min (x (ix3 0 f i)) (x (ix3 0 f j))

theorem common_comm (x : Vec Ideal S1x128x256 .f32) (i j : Fin 256) : common x i j = common x j i :=
  Finset.sum_congr rfl fun _ _ => min_comm _ _

theorem minSum_grouped (x : Vec Ideal S1x128x256 .f32) (s j : Fin 256) : minSum x (grouped x) s j = common x s j := by
  refine Finset.sum_congr rfl fun f _ => ?_
  congr 1
  show x _ = x _
  congr 2
  exact Fin.ext (by show 8 * (f.val / 8) + f.val % 8 = f.val; omega)

/-- The sums of the smaller features, as contents of the second scratch buffer. -/
def commons (x : Vec Ideal S1x128x256 .f32) : Vec Ideal S256x256 .f32 := fun y => common x (y 0) (y 1)

variable (𝒱 : Variants) (c : Dev nD) (bd : Option 𝒱.V) (i : grid0.Coords) (arg1 : Memref sig .tc .vmem S1x128x256 .f32) (harg1 : arg1.IsWhole) (arg2 : Memref sig .tc .vmem S1x256x256 .f32) (harg2 : arg2.IsWhole) (arg3 : Memref sig .tc .vmem S1x128x16 .f32) (harg3 : arg3.IsWhole) (arg4 : Memref sig .tc .vmem S16x256x8 .f32) (harg4 : arg4.IsWhole) (arg5 : Memref sig .tc .vmem S256x256 .f32) (harg5 : arg5.IsWhole)

/-- The first loop's stores before trip `k`: each holds the sums, and together they cover the rows below `64k`. -/
theorem top_pieces (v1 : FVec Ideal S128x256 .f32) (v64 : FVec Ideal S256x8 .f32)
    (X1 : BufTy.Contents (Elt Ideal) arg1.view.ty) (X4 : BufTy.Contents (Elt Ideal) arg4.view.ty) (x : Vec Ideal S1x128x256 .f32)
    (h1 : arg1.view.read _ X1 = x) (h4 : arg4.view.read _ X4 = grouped x) : ∀ k : ℕ, k ≤ 2 →
    (∀ p ∈ pb_k0_t1 𝒱 c bd i arg1 harg1 arg2 harg2 arg3 harg3 arg4 harg4 arg5 harg5 v1 v64 X1 X4 k,
        ∀ y : p.1.shape.Idx, p.2 y = commons x (p.1.emb y))
      ∧ ∀ y : S256x256.Idx, (y 0).val < 64 * k →
        ∃ p ∈ pb_k0_t1 𝒱 c bd i arg1 harg1 arg2 harg2 arg3 harg3 arg4 harg4 arg5 harg5 v1 v64 X1 X4 k, y ∈ p.1.set
  | 0, _ => ⟨fun p hp => absurd hp List.not_mem_nil, fun y hy => by omega⟩
  | k + 1, hk => by
    have ht : k < k0_t1_loop.trips := (by omega : k < 2)
    obtain ⟨ih, ihc⟩ := top_pieces v1 v64 X1 X4 x h1 h4 k (by omega)
    obtain ⟨P, e, hP⟩ := topTrip 𝒱 c bd i arg1 harg1 arg2 harg2 arg3 harg3 arg4 harg4 arg5 harg5 v1 v64 X1 X4 ⟨k, ht⟩
      x (grouped x) h1 h4 (by show k < 2; omega)
    have es := pb_k0_t1_succ 𝒱 c bd i arg1 harg1 arg2 harg2 arg3 harg3 arg4 harg4 arg5 harg5 v1 v64 X1 X4 ⟨k, ht⟩
    rw [e] at es
    have ho : k0_off17 ⟨k, ht⟩ = ![64 * k, 0] := by
      rw [← word64 k (by omega)]; rfl
    rw [show pb_k0_t1 𝒱 c bd i arg1 harg1 arg2 harg2 arg3 harg3 arg4 harg4 arg5 harg5 v1 v64 X1 X4 (k + 1) = _ from es]
    refine ⟨fun p hp => ?_, fun y hy => ?_⟩
    · rcases List.mem_append.mp hp with hp | hp
      · obtain rfl := List.mem_singleton.mp hp
        intro y
        obtain ⟨r, j, rfl⟩ : ∃ (r : Fin 64) (j : Fin 256), y = ix2 r j := ⟨y 0, y 1, eq_ix2 y⟩
        refine (hP r j).trans ((minSum_grouped x _ _).trans ?_)
        show common x _ _ = common x _ _
        congr 1
        · refine Fin.ext ?_
          show 64 * k + r.val = k0_off17 ⟨k, ht⟩ 0 + 1 * r.val
          rw [ho]; show _ = 64 * k + 1 * r.val; omega
        · refine Fin.ext ?_
          show j.val = k0_off17 ⟨k, ht⟩ 1 + 1 * j.val
          rw [ho]; show _ = 0 + 1 * j.val; omega
      · exact ih p hp
    · by_cases h : (y 0).val < 64 * k
      · obtain ⟨p, hp, hy⟩ := ihc y h
        exact ⟨p, List.mem_append_right _ hp, hy⟩
      · refine ⟨_, List.mem_append_left _ (List.mem_singleton.mpr rfl), ?_⟩
        rw [Rect.mem_set_unit]
        intro a
        rw [ho]
        match a with
        | ⟨0, _⟩ => exact ⟨(by omega : 64 * k ≤ (y 0).val), (by omega : (y 0).val < 64 * k + 64)⟩
        | ⟨1, _⟩ => exact ⟨Nat.zero_le _, by have : (y 1).val < 256 := (y 1).isLt; show (y 1).val < 0 + 256; omega⟩

/-- The second loop's stores before trip `k`: each holds the sums, and together they cover the rows from 128 to
    `128 + 64k`, columns 128 and up. -/
theorem bot_pieces (v1 : FVec Ideal S128x256 .f32) (v64 : FVec Ideal S256x8 .f32)
    (X1 : BufTy.Contents (Elt Ideal) arg1.view.ty) (X4 : BufTy.Contents (Elt Ideal) arg4.view.ty) (x : Vec Ideal S1x128x256 .f32)
    (h1 : arg1.view.read _ X1 = x) (h4 : arg4.view.read _ X4 = grouped x) : ∀ k : ℕ, k ≤ 2 →
    (∀ p ∈ pb_k0_t2 𝒱 c bd i arg1 harg1 arg2 harg2 arg3 harg3 arg4 harg4 arg5 harg5 v1 v64 X1 X4 k,
        ∀ y : p.1.shape.Idx, p.2 y = commons x (p.1.emb y))
      ∧ ∀ y : S256x256.Idx, 128 ≤ (y 0).val → (y 0).val < 128 + 64 * k → 128 ≤ (y 1).val →
        ∃ p ∈ pb_k0_t2 𝒱 c bd i arg1 harg1 arg2 harg2 arg3 harg3 arg4 harg4 arg5 harg5 v1 v64 X1 X4 k, y ∈ p.1.set
  | 0, _ => ⟨fun p hp => absurd hp List.not_mem_nil, fun y hy => by omega⟩
  | k + 1, hk => by
    have ht : k < k0_t2_loop.trips := (by omega : k < 2)
    obtain ⟨ih, ihc⟩ := bot_pieces v1 v64 X1 X4 x h1 h4 k (by omega)
    obtain ⟨P, e, hP⟩ := botTrip 𝒱 c bd i arg1 harg1 arg2 harg2 arg3 harg3 arg4 harg4 arg5 harg5 v1 v64 X1 X4 ⟨k, ht⟩
      x (grouped x) h1 h4 (by show k < 2; omega)
    have es := pb_k0_t2_succ 𝒱 c bd i arg1 harg1 arg2 harg2 arg3 harg3 arg4 harg4 arg5 harg5 v1 v64 X1 X4 ⟨k, ht⟩
    rw [e] at es
    have ho : k0_off34 ⟨k, ht⟩ = ![128 + 64 * k, 128] := by
      rw [← word128 k (by omega)]; rfl
    rw [show pb_k0_t2 𝒱 c bd i arg1 harg1 arg2 harg2 arg3 harg3 arg4 harg4 arg5 harg5 v1 v64 X1 X4 (k + 1) = _ from es]
    refine ⟨fun p hp => ?_, fun y hy hy' hy1 => ?_⟩
    · rcases List.mem_append.mp hp with hp | hp
      · obtain rfl := List.mem_singleton.mp hp
        intro y
        obtain ⟨r, j, rfl⟩ : ∃ (r : Fin 64) (j : Fin 128), y = ix2 r j := ⟨y 0, y 1, eq_ix2 y⟩
        refine (hP r j).trans ((minSum_grouped x _ _).trans ?_)
        show common x _ _ = common x _ _
        congr 1
        · refine Fin.ext ?_
          show 128 + 64 * k + r.val = k0_off34 ⟨k, ht⟩ 0 + 1 * r.val
          rw [ho]; show _ = 128 + 64 * k + 1 * r.val; omega
        · refine Fin.ext ?_
          show 128 + j.val = k0_off34 ⟨k, ht⟩ 1 + 1 * j.val
          rw [ho]; show _ = 128 + 1 * j.val; omega
      · exact ih p hp
    · by_cases h : (y 0).val < 128 + 64 * k
      · obtain ⟨p, hp, hy⟩ := ihc y hy h hy1
        exact ⟨p, List.mem_append_right _ hp, hy⟩
      · refine ⟨_, List.mem_append_left _ (List.mem_singleton.mpr rfl), ?_⟩
        rw [Rect.mem_set_unit]
        intro a
        rw [ho]
        match a with
        | ⟨0, _⟩ => exact ⟨(by omega : 128 + 64 * k ≤ (y 0).val), (by omega : (y 0).val < 128 + 64 * k + 64)⟩
        | ⟨1, _⟩ => exact ⟨hy1, by have : (y 1).val < 256 := (y 1).isLt; show (y 1).val < 128 + 128; omega⟩

/-- The contents of the second scratch buffer before its last store: the two loops' pieces and the transposed block. -/
theorem read_commons (v1 : FVec Ideal S128x256 .f32) (v64 : FVec Ideal S256x8 .f32)
    (X1 : BufTy.Contents (Elt Ideal) arg1.view.ty) (X4 : BufTy.Contents (Elt Ideal) arg4.view.ty) (x : Vec Ideal S1x128x256 .f32)
    (h1 : arg1.view.read _ X1 = x) (h4 : arg4.view.read _ X4 = grouped x) (fs : BufTy.Contents (Elt Ideal) arg5.view.ty)
    (L : List (View.Piece (Elt Ideal) S256x256 .f32))
    (hL : L = pb_k0_t2 𝒱 c bd i arg1 harg1 arg2 harg2 arg3 harg3 arg4 harg4 arg5 harg5 v1 v64 X1 X4 2
      ++ pb_k0_t1 𝒱 c bd i arg1 harg1 arg2 harg2 arg3 harg3 arg4 harg4 arg5 harg5 v1 v64 X1 X4 2) :
    arg5.view.read (Elt Ideal) (arg5.view.writes (Elt Ideal) fs
      (⟨Rect.unit ![128, 0] S128x128.size inb_S256x256_S128x128_128_0, k0_pay192 (F := Ideal) (k0_pay191
        (View.readAt (Elt Ideal) arg5.view (Rect.unit (s := S256x256) ![0, 128] S128x128.size inb_S256x256_S128x128_0_128).toLoadRect
          (arg5.view.writes (Elt Ideal) fs L)))⟩ :: L)) = commons x := by
  obtain ⟨ht, htc⟩ := top_pieces 𝒱 c bd i arg1 harg1 arg2 harg2 arg3 harg3 arg4 harg4 arg5 harg5 v1 v64 X1 X4 x h1 h4 2 le_rfl
  obtain ⟨hb, hbc⟩ := bot_pieces 𝒱 c bd i arg1 harg1 arg2 harg2 arg3 harg3 arg4 harg4 arg5 harg5 v1 v64 X1 X4 x h1 h4 2 le_rfl
  have hLp : ∀ p ∈ L, ∀ y : p.1.shape.Idx, p.2 y = commons x (p.1.emb y) := by
    intro p hp
    rw [hL] at hp
    exact (List.mem_append.mp hp).elim (hb p) (ht p)
  have hup : ∀ r j : Fin 128, View.readAt (Elt Ideal) arg5.view (Rect.unit (s := S256x256) ![0, 128] S128x128.size inb_S256x256_S128x128_0_128).toLoadRect
      (arg5.view.writes (Elt Ideal) fs L) (ix2 r j) = common x ⟨r.val, by omega⟩ ⟨128 + j.val, by omega⟩ := by
    intro r j
    have hcov : ∃ p ∈ L, (ix2 ⟨r.val, by omega⟩ ⟨128 + j.val, by omega⟩ : S256x256.Idx) ∈ p.1.set := by
      obtain ⟨p, hp, hy⟩ := htc (ix2 ⟨r.val, by omega⟩ ⟨128 + j.val, by omega⟩) (by show r.val < 64 * 2; omega)
      exact ⟨p, by rw [hL]; exact List.mem_append_right _ hp, hy⟩
    refine Eq.trans ?_ (View.read_writes_apply_of_pieces arg5.view fs (commons x) L hLp _ hcov)
    rw [View.readAt_apply]
    congr 1
    funext a
    match a with
    | ⟨0, _⟩ => exact Fin.ext (by show 0 + 1 * r.val = r.val; omega)
    | ⟨1, _⟩ => exact Fin.ext (by show 128 + 1 * j.val = 128 + j.val; omega)
  funext y
  refine View.read_writes_apply_of_pieces arg5.view fs (commons x) _ ?_ y ?_
  · intro p hp
    rcases List.mem_cons.mp hp with rfl | hp
    · intro y
      obtain ⟨r, j, rfl⟩ : ∃ (r : Fin 128) (j : Fin 128), y = ix2 r j := ⟨y 0, y 1, eq_ix2 y⟩
      unfold k0_pay191 k0_pay192
      pointwise
      rw [hup, common_comm]
      show common x _ _ = common x _ _
      congr 1
      · exact Fin.ext (by show 128 + r.val = 128 + 1 * r.val; omega)
      · exact Fin.ext (by show j.val = 0 + 1 * j.val; omega)
    · exact hLp p hp
  · by_cases h0 : (y 0).val < 128
    · obtain ⟨p, hp, hy⟩ := htc y (by omega)
      exact ⟨p, List.mem_cons_of_mem _ (by rw [hL]; exact List.mem_append_right _ hp), hy⟩
    · by_cases h1 : (y 1).val < 128
      · refine ⟨_, List.mem_cons_self, ?_⟩
        rw [Rect.mem_set_unit]
        intro a
        match a with
        | ⟨0, _⟩ => exact ⟨(by omega : 128 ≤ (y 0).val), by have : (y 0).val < 256 := (y 0).isLt; show (y 0).val < 128 + 128; omega⟩
        | ⟨1, _⟩ => exact ⟨Nat.zero_le _, by show (y 1).val < 0 + 128; omega⟩
      · obtain ⟨p, hp, hy⟩ := hbc y (by omega) (by have : (y 0).val < 256 := (y 0).isLt; omega) (by omega)
        exact ⟨p, List.mem_cons_of_mem _ (by rw [hL]; exact List.mem_append_left _ hp), hy⟩

/-- The distance as the kernel computes it: the two sums of the features less twice the sum of the smaller ones. -/
def kdist (x : Vec Ideal S1x128x256 .f32) (i j : Fin 256) : EReal :=
  (∑ f : Fin 128, x (ix3 0 f i)) + (∑ f : Fin 128, x (ix3 0 f j)) - 2 * common x i j

/-- The second scratch buffer's last store. -/
theorem last_store (x : Vec Ideal S1x128x256 .f32) (v101 : Vec Ideal S256x256 .f32) (h : v101 = commons x) (s t : Fin 256) :
    k0_pay193 (k0_pay169 x) v101 (ix2 s t) = kdist x s t := by
  have hx : ∀ (f : Fin 128) (u : Fin 256), k0_pay169 x (ix2 f u) = x (ix3 0 f u) := by
    intro f u; unfold k0_pay169; pointwise
  rw [d_apply, h]
  simp only [hx]
  rfl

/-- The medoids before round `k`. -/
def after (D : Fin 256 → Fin 256 → EReal) (w : Fin 256 → EReal) : ℕ → Fin 16 → Fin 256
  | 0 => start w
  | k + 1 => next D w (after D w k)

/-- The words that the medoid loop carries are the medoids' numbers. -/
theorem carried (X5 : BufTy.Contents (Elt Ideal) arg5.view.ty) (D : Fin 256 → Fin 256 → EReal) (w : Fin 256 → EReal)
    (h5 : ∀ s t, arg5.view.read (Elt Ideal) X5 (ix2 s t) = D s t)
    (v135 : IVec S256x1 32) (v136 : IVec S256x16 32) (v137 : IVec S256x16 32) (v138 : FVec Ideal S256x1 .f32)
    (h135 : ∀ s : Fin 256, v135 (ix2 s 0) = BitVec.ofNat 32 s.val)
    (h136 : ∀ (s : Fin 256) (c : Fin 16), v136 (ix2 s c) = BitVec.ofNat 32 c.val)
    (h137 : ∀ (s : Fin 256) (c : Fin 16), v137 (ix2 s c) = BitVec.ofNat 32 s.val)
    (h138 : ∀ s : Fin 256, v138 (ix2 s 0) = w s)
    (init : IVec S1x16 32) (hi : ∀ c : Fin 16, init (ix2 0 c) = BitVec.ofNat 32 (start w c).val) : ∀ k ≤ 3, ∀ cl : Fin 16,
    st_k0_t3 𝒱 c bd i arg1 harg1 arg2 harg2 arg3 harg3 arg4 harg4 arg5 harg5 v135 v136 v137 v138 X5 init k (ix2 0 cl)
      = BitVec.ofNat 32 (after D w k cl).val
  | 0, _, cl => hi cl
  | k + 1, hk, cl => by
    have ht : k < k0_t3_loop.trips := (by omega : k < 3)
    have es := st_k0_t3_succ 𝒱 c bd i arg1 harg1 arg2 harg2 arg3 harg3 arg4 harg4 arg5 harg5 v135 v136 v137 v138 X5 init ⟨k, ht⟩
    refine (congrFun es (ix2 0 cl)).trans ?_
    have ih := carried X5 D w h5 v135 v136 v137 v138 h135 h136 h137 h138 init hi k (by omega)
    generalize st_k0_t3 𝒱 c bd i arg1 harg1 arg2 harg2 arg3 harg3 arg4 harg4 arg5 harg5 v135 v136 v137 v138 X5 init k = acc at ih
    unfold tripR_k0_t3 trip_k0_t3
    dsimp only
    sl_unfold_words
    refine round_apply v135 v136 v137 v138 acc _ D w (after D w k) h135 h136 h137 h138 ?_ ih cl
    intro s t
    refine Eq.trans ?_ (h5 s t)
    rw [View.readAt_apply]
    congr 1
    funext a
    match a with
    | ⟨0, _⟩ => exact Fin.ext (by show 0 + 1 * s.val = s.val; omega)
    | ⟨1, _⟩ => exact Fin.ext (by show 0 + 1 * t.val = t.val; omega)

/-- The kernel's result block: the medoids' features. -/
def result (x : Vec Ideal S1x128x256 .f32) (w : Vec Ideal S1x256x256 .f32) : Vec Ideal S1x128x16 .f32 :=
  fun y => x (ix3 0 (y 1) (medoids (kdist x) (colMean fun r s => w (ix3 0 r s)) (y 2)))

end Cert.KMed
end
-- ==== Proof.KRun.lean ====
module

public import proofs.«01_k».proof.Proof.Gen.KernelIdeal.Frame.Runs
public import proofs.«01_k».proof.Proof.KScratch
public import Idealize.ShloMosaic.Lib.WholeRead
public import Idealize.ShloMosaic.Lib.VecWindow

/-!
  One run of the kernel's body over the extended reals: from any contents of the scratch buffers and of the output
  block, it leaves the features of the medoids (`result`) in the output block.
-/

@[expose] public section
set_option maxRecDepth 16384
noncomputable section
namespace Cert.KMed
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- What the last store puts into the output block. -/
theorem stored (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S1x128x16 .f32) (harg3 : arg3.IsWhole) (arg4 : Memref sig .tc .vmem S16x256x8 .f32) (harg4 : arg4.IsWhole) (arg5 : Memref sig .tc .vmem S256x256 .f32) (harg5 : arg5.IsWhole)
    (x : Vec Ideal S1x128x256 .f32) (w : Vec Ideal S1x256x256 .f32)
    (X1 : BufTy.Contents (Elt Ideal) arg1.view.ty) (h1 : arg1.view.read _ X1 = x)
    (f4 : BufTy.Contents (Elt Ideal) arg4.view.ty) (f5 f5' : BufTy.Contents (Elt Ideal) arg5.view.ty)
    (v1 : FVec Ideal S128x256 .f32) (v64 : FVec Ideal S256x8 .f32) (L M : List (View.Piece (Elt Ideal) S256x256 .f32))
    (hL : L = pb_k0_t2 Variants.none c none i arg1 harg1 arg2 harg2 arg3 harg3 arg4 harg4 arg5 harg5 v1 v64 X1 (arg4.view.writes (Elt Ideal) f4 (copies x)) 2
      ++ pb_k0_t1 Variants.none c none i arg1 harg1 arg2 harg2 arg3 harg3 arg4 harg4 arg5 harg5 v1 v64 X1 (arg4.view.writes (Elt Ideal) f4 (copies x)) 2)
    (hM : M = ⟨Rect.unit ![128, 0] S128x128.size inb_S256x256_S128x128_128_0, k0_pay192 (F := Ideal) (k0_pay191
        (View.readAt (Elt Ideal) arg5.view (Rect.unit (s := S256x256) ![0, 128] S128x128.size inb_S256x256_S128x128_0_128).toLoadRect
          (arg5.view.writes (Elt Ideal) f5 L)))⟩ :: L) :
    k0_pay2 (k0_pay169 x) (iota .tc S256x1 32 [0] iota_S256x1_d0_w32)
      (st_k0_t3 Variants.none c none i arg1 harg1 arg2 harg2 arg3 harg3 arg4 harg4 arg5 harg5
        (iota .tc S256x1 32 [0] iota_S256x1_d0_w32) (iota .tc S256x16 32 [1] iota_S256x16_d1_w32) (iota .tc S256x16 32 [0] iota_S256x16_d0_w32)
        (k0_pay195 (k0_pay170 w))
        (arg5.view.writes (Elt Ideal) f5' (⟨Rect.unit ![0, 0] S256x256.size inb_S256x256_S256x256_0_0, k0_pay193 (F := Ideal) (k0_pay169 x)
          (View.readAt (Elt Ideal) arg5.view (Rect.unit (s := S256x256) ![0, 0] S256x256.size inb_S256x256_S256x256_0_0).toLoadRect
            (arg5.view.writes (Elt Ideal) f5 M))⟩ :: M))
        (k0_pay194 (k0_pay170 w)) 3) = result x w := by
  have hc := read_commons Variants.none c none i arg1 harg1 arg2 harg2 arg3 harg3 arg4 harg4 arg5 harg5 v1 v64 X1 _ x h1
    (read_copies f4 x) f5 L hL
  rw [← hM] at hc
  have hv : View.readAt (Elt Ideal) arg5.view (Rect.unit (s := S256x256) ![0, 0] S256x256.size inb_S256x256_S256x256_0_0).toLoadRect
      (arg5.view.writes (Elt Ideal) f5 M) = commons x := by
    rw [View.readAt_full, hc]
  have h135 : ∀ s : Fin 256, iota .tc S256x1 32 [0] iota_S256x1_d0_w32 (ix2 s 0) = BitVec.ofNat 32 s.val := fun s => by pointwise
  have hw : ∀ s : Fin 256, k0_pay170 w (ix2 0 s) = colMean (fun r s => w (ix3 0 r s)) s := weights_apply w
  funext y
  obtain ⟨a, f, cl, rfl⟩ : ∃ (a : Fin 1) (f : Fin 128) (cl : Fin 16), y = ix3 a f cl := ⟨y 0, y 1, y 2, eq_ix3 y⟩
  obtain rfl : a = 0 := Subsingleton.elim _ _
  rw [out_apply _ _ _ (medoids (kdist x) (colMean fun r s => w (ix3 0 r s))) h135 ?_ f cl]
  · unfold k0_pay169; pointwise
    rfl
  intro cl
  refine carried Variants.none c none i arg1 harg1 arg2 harg2 arg3 harg3 arg4 harg4 arg5 harg5 _ (kdist x) _ ?_ _ _ _ _
    h135 (fun s c => by pointwise) (fun s c => by pointwise) (fun s => ?_) _ (fun c => first_apply _ _ hw c) 3 le_rfl cl
  · intro s t
    rw [View.read_writes_full]
    exact last_store x _ hv s t
  · rw [wcol_apply]; exact hw s

set_option maxHeartbeats 4000000 in
/-- The body's triple: the inputs are left as they were, the output block holds `result`. -/
theorem body_run (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S1x128x16 .f32) (harg3 : arg3.IsWhole) (arg4 : Memref sig .tc .vmem S16x256x8 .f32) (harg4 : arg4.IsWhole) (arg5 : Memref sig .tc .vmem S256x256 .f32) (harg5 : arg5.IsWhole)
    (x0 : Vec Ideal S1x128x256 .f32) (x1 : Vec Ideal S1x256x256 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare (result x0 x1) ∗ (∃ d, owns (c : Thread nD τ) arg4 fullShare d) ∗ (∃ d, owns (c : Thread nD τ) arg5 fullShare d)) -∗ K ⟨⟩))
          ⊢ wp frame (wpE (defs₀ (F := Ideal)) Variants.none c none) E (cc0__kmedoids_body i arg1 harg1 arg2 harg2 arg3 harg3 arg4 harg4 arg5 harg5) K := by
  simp only [cc0__kmedoids_body_eq_skeleton]; unfold cc0__kmedoids_body_skel
  simp only [k0_part34_eq_skeleton, k0_part35_eq_skeleton, k0_part36_eq_skeleton, k0_part37_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, Hk⟩
  obtain rfl := harg1.eq_unread hf0; obtain rfl := harg2.eq_unread hf1
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro
    have e1 : View.readAt (Elt Ideal) arg1.view (Rect.unit (s := S1x128x256) ![0, 0, 0] S1x128x256.size inb_S1x128x256_S1x128x256_0_0_0).toLoadRect
        (harg1.unread x0) = x0 := by rw [View.readAt_full, hf0]
    have e2 : View.readAt (Elt Ideal) arg2.view (Rect.unit (s := S1x256x256) ![0, 0, 0] S1x256x256.size inb_S1x256x256_S1x256x256_0_0_0).toLoadRect
        (harg2.unread x1) = x1 := by rw [View.readAt_full, hf1]
    sl_unfold_words
    refine (View.read_writes_full _ _ _ _ _).trans ?_
    refine (stored c i arg1 harg1 arg2 harg2 arg3 harg3 arg4 harg4 arg5 harg5
      (View.readAt (Elt Ideal) arg1.view (Rect.unit (s := S1x128x256) ![0, 0, 0] S1x128x256.size inb_S1x128x256_S1x128x256_0_0_0).toLoadRect (harg1.unread x0))
      (View.readAt (Elt Ideal) arg2.view (Rect.unit (s := S1x256x256) ![0, 0, 0] S1x256x256.size inb_S1x256x256_S1x256x256_0_0_0).toLoadRect (harg2.unread x1))
      (harg1.unread x0) (hf0.trans e1.symm) arg4.view.junk fs1 arg5.view.junk _ _ _ _ rfl rfl).trans ?_
    rw [e1, e2]
  isplitl [HS0]
  · iexists _, _; isplitr; swap; · iexact HS0
    ipureintro; rfl
  · iexists _, _; isplitr; swap; · iexact HS1
    ipureintro; rfl

end Cert.KMed
end
-- ==== Proof.KFrame.lean ====
module

public import proofs.«01_k».proof.Proof.KRun
public import Idealize.ShloMosaic.Lib.Claim
public import Idealize.ShloMosaic.Lib.Pipeline.Value
public import Idealize.ShloMosaic.Lib.Pipeline.ValueKit.Point

/-!
  The launch of the idealized kernel: it terminates, leaves its arguments unchanged and every counter at zero, and its
  result array holds, batch by batch, what one run of the body leaves (`result`).
-/

@[expose] public section
set_option maxRecDepth 16384
noncomputable section
namespace Cert.KMed
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The contents that the pipeline's buffers have: an input's staging buffer its block, the output's the result of the
    two blocks, at every batch. -/
def kdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result (iblk m c 0 t) (iblk m c 1 t)
  Φ _ := Pipeline.ΦA spec0 c
  q _ := fullShare
  owed _ := 0

theorem kdats_arr (c : Dev nD) (w : Fin cfg0.W) : (kdats m 0 c).A w = V m c (Pipeline.arrRef spec0 w) := by
  dsimp only [kdats]

theorem kdats_after0 (c : Dev nD) (t : Fin cfg0.N) : (kdats m 0 c).after 0 t = iblk m c 0 t := by dsimp only [kdats]
theorem kdats_after1 (c : Dev nD) (t : Fin cfg0.N) : (kdats m 0 c).after 1 t = iblk m c 1 t := by dsimp only [kdats]
theorem kdats_after2 (c : Dev nD) (t : Fin cfg0.N) :
    (kdats m 0 c).after 2 t = result (iblk m c 0 t) (iblk m c 1 t) := by dsimp only [kdats]

theorem kdats_before0 (c : Dev nD) (t : Fin cfg0.N) (d) : (kdats m 0 c).before 0 t d = iblk m c 0 t :=
  before0_0_of m (kdats m 0 c) (kdats_arr m c 0) (kdats_after0 m c) t d
theorem kdats_before1 (c : Dev nD) (t : Fin cfg0.N) (d) : (kdats m 0 c).before 1 t d = iblk m c 1 t :=
  before0_1_of m (kdats m 0 c) (kdats_arr m c 1) (kdats_after1 m c) t d

/-- What the body has when it is called for batch `t`. -/
def atCall (c : Dev nD) (t : Fin cfg0.N) : sProp 𝕄 :=
  iprop((kdats m 0 c).Φ t.castSucc ∗ (kdats m 0 c).owesAt () t.castSucc
    ∗ (∃ d, owns (c : Thread nD τ) (ms0_0 t) fullShare ((kdats m 0 c).before 0 t d))
    ∗ (∃ d, owns (c : Thread nD τ) (ms0_1 t) fullShare ((kdats m 0 c).before 1 t d))
    ∗ (∃ d, owns (c : Thread nD τ) (ms0_2 t) fullShare ((kdats m 0 c).before 2 t d)))

/-- What it has when it returns. -/
def atReturn (c : Dev nD) (t : Fin cfg0.N) : sProp 𝕄 :=
  iprop((kdats m 0 c).Φ t.succ ∗ (kdats m 0 c).owesAt () t.succ
    ∗ owns (c : Thread nD τ) (ms0_0 t) fullShare ((kdats m 0 c).after 0 t)
    ∗ owns (c : Thread nD τ) (ms0_1 t) fullShare ((kdats m 0 c).after 1 t)
    ∗ owns (c : Thread nD τ) (ms0_2 t) fullShare ((kdats m 0 c).after 2 t))

/-- The body, called for batch `t`. -/
theorem body_at (c : Dev nD) (t : Fin cfg0.N) :
    atCall m c t ⊢ wp frame (wpE (defs₀ (F := Ideal)) Variants.none c none) Set.univ (bodyAt0 t) (fun _ => atReturn m c t) := by
  unfold atCall atReturn bodyAt0
  simp only [kdats_before0, kdats_before1]
  rw [show (kdats m 0 c).Φ t.succ = (kdats m 0 c).Φ t.castSucc from rfl,
    show (kdats m 0 c).owesAt () t.succ = (kdats m 0 c).owesAt () t.castSucc from rfl,
    kdats_after0, kdats_after1, kdats_after2]
  rw [show (kdats m 0 c).Φ t.castSucc = Pipeline.ΦA spec0 c from rfl, PhiA0_eq]
  iintro ⟨⟨⟨HS0, HS1⟩, Hg⟩, Ho, ⟨%d0, H0⟩, ⟨%d1, H1⟩, ⟨%d2, H2⟩⟩
  iapply (body_run c (grid0.coords t) _ _ _ _ _ _ _ _ _ _ (iblk m c 0 t) (iblk m c 1 t) Set.univ _)
  isplitl [H0]; · iexact H0
  isplitl [H1]; · iexact H1
  isplitl [H2]; · iexists _; iexact H2
  isplitl [HS0]; · iexact HS0
  isplitl [HS1]; · iexact HS1
  iintro ⟨H0, H1, H2, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  iexact H2

theorem body_row (t : Fin cfg0.N) :
    defs₀ (F := Ideal) .tc cfg0.body (cfg0.bodyArgs t (cfg0.slots t)) = bodyAt0 t := by
  unfold defs₀; rw [Defs.onTc_tc]

/-- The body does at every batch what the pipeline needs of it. -/
theorem obligation (c : Dev nD) : BodyObligation (kdats m 0 c) (defs₀ (F := Ideal)) Variants.none () Set.univ := fun t => by
  rw [bigSep_W0, bigSep_W0, body_row]
  exact triple_restated (body_at m c t) rfl .rfl fun _ => .rfl

set_option backward.isDefEq.respectTransparency.types false in
/-- The launch: the arrays end as the contents above say, every counter at zero. -/
theorem launched : θ_run defs (onTc (τ := τ) (main (F := Ideal))) (s₀ m ρ)
    (fun r => (Pipeline.FramePost cfgs (kdats m) 0 (V m)) r ∧ r.2.sem = fun _ => 0) :=
  Pipeline.θ_run_frame (Q' := _) cfgs (kdats m) (0 : Fin 1) launch0 defs₀ Variants.none m ρ main
    (hbody := fun c => (obligation m c).loose) (hshare := fun c => (kdats m 0 c).share_full fun _ => rfl)
    (howed := fun _ _ => rfl) (V := V m) (hmain := hmain m Variants.none) (hA := kdats_arr m) (hΦ := fun _ _ => rfl)

/-- The frame of the idealized kernel: terminates, arguments unchanged, counters zero. -/
theorem kernel_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (kdats m) (kdats_arr m) ((θ_run defs _ _).mono (fun _ h => h.1) (launched m ρ)))
    ((θ_run defs _ _).mono (fun _ h => h.2) (launched m ρ))

/-- The features of one batch, as a block. -/
def blockX (X : Vec Ideal S4x128x256 .f32) (b : Fin 4) : Vec Ideal S1x128x256 .f32 := fun z => X (ix3 b (z 1) (z 2))
/-- The weights of one batch, as a block. -/
def blockW (W : Vec Ideal S4x256x256 .f32) (b : Fin 4) : Vec Ideal S1x256x256 .f32 := fun z => W (ix3 b (z 1) (z 2))

/-- The kernel's result array as a function of its two arguments. -/
def kernelOut (X : Vec Ideal S4x128x256 .f32) (W : Vec Ideal S4x256x256 .f32) : Vec Ideal S4x128x16 .f32 :=
  fun y => result (blockX X (y 0)) (blockW W (y 0)) (ix3 0 (y 1) (y 2))

/-- Batch `t` reads block `t` of both arguments and writes block `t` of the result. -/
theorem batch : ∀ t : Fin cfg0.N, win0_0.index t = ![t.val, 0, 0] ∧ win0_1.index t = ![t.val, 0, 0] ∧ win0_2.index t = ![t.val, 0, 0] :=
  (by decide +kernel : ∀ t : Fin grid0.N, win0_0.index t = ![t.val, 0, 0] ∧ win0_1.index t = ![t.val, 0, 0] ∧ win0_2.index t = ![t.val, 0, 0])

theorem blk0 (c : Dev nD) (t : Fin cfg0.N) (b : Fin 4) (hb : b.val = t.val) :
    iblk m c 0 t = blockX (m ((c : Thread nD τ).loc main_arg0)) b := by
  funext z
  obtain ⟨h0, h1, h2⟩ := batch t
  show iblk m c 0 t z = m ((c : Thread nD τ).loc main_arg0) (ix3 b (z 1) (z 2))
  blk_ext [iblk, V, h0]

theorem blk1 (c : Dev nD) (t : Fin cfg0.N) (b : Fin 4) (hb : b.val = t.val) :
    iblk m c 1 t = blockW (m ((c : Thread nD τ).loc main_arg1)) b := by
  funext z
  obtain ⟨h0, h1, h2⟩ := batch t
  show iblk m c 1 t z = m ((c : Thread nD τ).loc main_arg1) (ix3 b (z 1) (z 2))
  blk_ext [iblk, V, h1]

/-- The result array after the launch. -/
theorem out_array (c : Dev nD) : (kdats m 0 c).arrAt 2 (cfgs 0).N
    = kernelOut (m ((c : Thread nD τ).loc main_arg0)) (m ((c : Thread nD τ).loc main_arg1)) := by
  refine (kdats m 0 c).arrAt_eq_of_covers 2 _ (by decide +kernel) fun t hf y => ?_
  obtain ⟨h0, h1, h2⟩ := batch t
  blk_simp
  rw [kdats_after2]
  have ht : t.val < 4 := t.isLt
  have e : (win0_2.blk t).view.emb y = ix3 (⟨t.val, ht⟩ : Fin 4) (y 1) (y 2) := by blk_ext [h2]
  have e' : y = (ix3 0 (y 1) (y 2) : S1x128x16.Idx) := by
    have h0 : @Eq (Fin 1) (y 0) 0 := Subsingleton.elim _ _
    refine (eq_ix3 (n0 := 1) (n1 := 128) (n2 := 16) y).trans ?_
    exact congrArg (fun a : Fin 1 => (ix3 a (y 1) (y 2) : S1x128x16.Idx)) h0
  rw [blk0 m c t ⟨t.val, ht⟩ rfl, blk1 m c t ⟨t.val, ht⟩ rfl]
  exact (congrArg _ e').trans (congrArg (kernelOut _ _) e).symm

/-- The kernel's run with its result named. -/
theorem kernel_run : θ_run defs (onTc (τ := τ) (main (F := Ideal))) ⟨m, fun _ => 0, ρ⟩ (fun r => ∀ c : Dev nD,
      r.2.mem ((c : Thread nD τ).loc main_v0)
        = kernelOut (m ((c : Thread nD τ).loc main_arg0)) (m ((c : Thread nD τ).loc main_arg1))) :=
  (θ_run defs _ _).mono (fun _ h c => ((h.1 c).1 2).trans (out_array m c)) (launched m ρ)

end Cert.KMed
end
-- ==== Proof.RefSteps.lean ====
module

public import proofs.«01_k».proof.Defs
public import proofs.«01_k».proof.Proof.Gen.ReferenceIdeal

/-!
  The steps of the reference as functions of whole arrays: the mean weights, the distances, the first medoids, one round
  on all batches, and the columns read at the last medoids. Each is the reference's operations composed in order.
-/

@[expose] public section
set_option maxRecDepth 16384
noncomputable section
namespace Cert.KMed
namespace Ref
open Idealize.ShloMosaic
open Cert.ReferenceIdeal Cert.ReferenceIdeal.Gen

/-- A 32-bit word array. -/
abbrev Words (s : Shape) := s.Idx → BitVec 32

/-- The mean weight of every column of every batch. -/
def weights (W : FVec Ideal S4x256x256 .f32) : FVec Ideal S4x256 .f32 :=
  Host.divf (F := Ideal) (Host.reduceAdd W (constant S_ .f32 0x00000000#32) reducesTo_S4x256x256_S4x256_d1 h_S_)
    (broadcastInDim S4x256 ![] bcast_S_S4x256 (constant S_ .f32 0x43800000#32))

/-- The distances between the columns of every batch. -/
def dists (X : FVec Ideal S4x128x256 .f32) : FVec Ideal S4x256x256 .f32 :=
  Host.reduceAdd (F := Ideal)
    (Host.absf (subf
      (broadcastInDim S4x128x256x256 ![0, 1, 2, 3] bcast_S4x128x256x1_S4x128x256x256_0_1_2_3
        (broadcastInDim S4x128x256x1 ![0, 1, 2] bcast_S4x128x256_S4x128x256x1_0_1_2 X))
      (broadcastInDim S4x128x256x256 ![0, 1, 2, 3] bcast_S4x128x1x256_S4x128x256x256_0_1_2_3
        (broadcastInDim S4x128x1x256 ![0, 1, 3] bcast_S4x128x256_S4x128x1x256_0_1_3 X))))
    (constant S_ .f32 0x00000000#32) reducesTo_S4x128x256x256_S4x256x256_d1 h_S_

/-- The first medoids: the places of the sixteen greatest weights of every batch. -/
def starts (V : FVec Ideal S4x256 .f32) : Words S4x1x16 :=
  broadcastInDim S4x1x16 ![0, 2] bcast_S4x16_S4x1x16_0_2
    (Host.topK S4x16 1 (FloatOps.cmpfTotal (F := Ideal) (φ := .f32) .gt) V sliceFits_S4x256_S4x16).2

/-- The index words with a negative one counted from the end, as one column of starting places. -/
def wrapped (I : Words S4x1x16) : Words S4x16x1 :=
  shapeCast S4x16x1
    (select (cmpi .slt I (broadcastInDim S4x1x16 ![] bcast_S_S4x1x16 (constantI S_ 32 0#32)))
      (addi I (broadcastInDim S4x1x16 ![] bcast_S_S4x1x16 (constantI S_ 32 256#32))) I)
    shapeCasts_S4x1x16_S4x16x1

/-- Whether a starting place lies between 0 and 255. -/
def inside (J : Words S4x16x1) : S4x16.Idx → BitVec 1 :=
  Host.reduce IntOp.andi
    (andi (cmpi .sge J (broadcastInDim S4x16x1 ![] bcast_S_S4x16x1 (constantI S_ 32 0#32)))
      (cmpi .sle J (broadcastInDim S4x16x1 ![0, 1, 2] bcast_S1x1x1_S4x16x1_0_1_2
        (broadcastInDim S1x1x1 ![2] bcast_S1_S1x1x1_2 (constantI S1 32 255#32)))))
    (constantI S_ 1 1#1) reducesTo_S4x16x1_S4x16_d2 h_S_

/-- The columns of the distances at the medoids. -/
def columns (D : FVec Ideal S4x256x256 .f32) (I : Words S4x1x16) : FVec Ideal S4x256x16 .f32 :=
  select (broadcastInDim S4x256x16 ![0, 2] bcast_S4x16_S4x256x16_0_2 (inside (wrapped I)))
    (Host.gather gather_S4x256x256_S4x16x1_S4x256x16_1_2_0_0_2_2_12561 D (wrapped I))
    (broadcastInDim S4x256x16 ![] bcast_S_S4x256x16 (constant (F := Ideal) S_ .f32 0x7FC00000#32))

/-- The nearest medoid of every column. -/
def nearest (N : FVec Ideal S4x256x16 .f32) : Words S4x256 :=
  fun j => (Host.argReduce (F := Ideal) reducer_argmin_f32_i32 N (iotaInDim S4x256x16 32 2) (constant S_ .f32 0x7F800000#32)
    (constantI S_ 32 0#32) reducesTo_S4x256x16_S4x256_d2 h_S_ j).2

/-- The table of ones where a column belongs to a cluster, zeros elsewhere. -/
def table (A : Words S4x256) : FVec Ideal S4x256x16 .f32 :=
  uitofp (F := Ideal) .f32
    (cmpi .eq (broadcastInDim S4x256x16 ![0, 1, 2] bcast_S4x256x1_S4x256x16_0_1_2
        (broadcastInDim S4x256x1 ![0, 1] bcast_S4x256_S4x256x1_0_1 A))
      (broadcastInDim S4x256x16 ![0, 1, 2] bcast_S1x1x16_S4x256x16_0_1_2 (iotaInDim S1x1x16 32 2)))

/-- The cost of every column as the medoid of every cluster: infinite unless the column belongs to it. -/
def costs (D : FVec Ideal S4x256x256 .f32) (V : FVec Ideal S4x256 .f32) (T : FVec Ideal S4x256x16 .f32) :
    FVec Ideal S4x256x16 .f32 :=
  select (cmpf (F := Ideal) .ogt T (broadcastInDim S4x256x16 ![] bcast_S_S4x256x16 (constant S_ .f32 0x00000000#32)))
    (Host.dotGeneral (F := Ideal) dot_S4x256x256_S4x256x16_S4x256x16_2_1_1_2_0_0 none D
      (mulf (broadcastInDim S4x256x16 ![0, 1, 2] bcast_S4x256x1_S4x256x16_0_1_2
        (broadcastInDim S4x256x1 ![0, 1] bcast_S4x256_S4x256x1_0_1 V)) T))
    (broadcastInDim S4x256x16 ![] bcast_S_S4x256x16 (constant (F := Ideal) S_ .f32 0x7F800000#32))

/-- The column of least cost of every cluster. -/
def cheapest (C : FVec Ideal S4x256x16 .f32) : Words S4x1x16 :=
  broadcastInDim S4x1x16 ![0, 2] bcast_S4x16_S4x1x16_0_2
    fun j => (Host.argReduce (F := Ideal) reducer_argmin_f32_i32 C (iotaInDim S4x256x16 32 1) (constant S_ .f32 0x7F800000#32)
      (constantI S_ 32 0#32) reducesTo_S4x256x16_S4x16_d1 h_S_ j).2

/-- One round: the next medoids of every batch. -/
def round (D : FVec Ideal S4x256x256 .f32) (V : FVec Ideal S4x256 .f32) (I : Words S4x1x16) : Words S4x1x16 :=
  cheapest (costs D V (table (nearest (columns D I))))

/-- The index words of the last reading, a negative one counted from the end. -/
def wrappedAll (J : Words S4x128x16) : Words S4x128x16x1 :=
  shapeCast S4x128x16x1
    (select (cmpi .slt J (broadcastInDim S4x128x16 ![] bcast_S_S4x128x16 (constantI S_ 32 0#32)))
      (addi J (broadcastInDim S4x128x16 ![] bcast_S_S4x128x16 (constantI S_ 32 256#32))) J)
    shapeCasts_S4x128x16_S4x128x16x1

/-- Whether an index word of the last reading lies between 0 and 255. -/
def insideAll (J : Words S4x128x16x1) : S4x128x16.Idx → BitVec 1 :=
  Host.reduce IntOp.andi
    (andi (cmpi .sge J (broadcastInDim S4x128x16x1 ![] bcast_S_S4x128x16x1 (constantI S_ 32 0#32)))
      (cmpi .sle J (broadcastInDim S4x128x16x1 ![0, 1, 2, 3] bcast_S1x1x1x1_S4x128x16x1_0_1_2_3
        (broadcastInDim S1x1x1x1 ![3] bcast_S1_S1x1x1x1_3 (constantI S1 32 255#32)))))
    (constantI S_ 1 1#1) reducesTo_S4x128x16x1_S4x128x16_d3 h_S_

/-- The columns of the points at the medoids. -/
def picked (X : FVec Ideal S4x128x256 .f32) (J : Words S4x128x16) : FVec Ideal S4x128x16 .f32 :=
  select (insideAll (wrappedAll J))
    (Host.gather gather_S4x128x256_S4x128x16x1_S4x128x16_n_2_01_01_2_3_111 X (wrappedAll J))
    (broadcastInDim S4x128x16 ![] bcast_S_S4x128x16 (constant (F := Ideal) S_ .f32 0x7FC00000#32))

/-- The last medoids: three rounds from the first ones. -/
def lasts (X : FVec Ideal S4x128x256 .f32) (W : FVec Ideal S4x256x256 .f32) : Words S4x1x16 :=
  round (dists X) (weights W) (round (dists X) (weights W) (round (dists X) (weights W) (starts (weights W))))

/-- The reference's result. -/
def out (X : FVec Ideal S4x128x256 .f32) (W : FVec Ideal S4x256x256 .f32) : FVec Ideal S4x128x16 .f32 :=
  picked X (broadcastInDim S4x128x16 ![0, 1, 2] bcast_S4x1x16_S4x128x16_0_1_2 (lasts X W))

end Ref
end Cert.KMed
end
-- ==== Proof.RefRead.lean ====
module

public import proofs.«01_k».proof.Proof.RefSteps
public import proofs.«01_k».proof.Proof.KRound
public import Idealize.ShloMosaic.Lib.Pointwise

/-!
  The steps of the reference read at an index.
-/

@[expose] public section
set_option maxRecDepth 16384
noncomputable section
namespace Cert.KMed
namespace Ref
open Idealize.ShloMosaic Idealize.ShloMosaic.TcCoe Idealize.ShloMosaic.Tactic
open Cert.ReferenceIdeal Cert.ReferenceIdeal.Gen

theorem weights_apply (W : FVec Ideal S4x256x256 .f32) (b : Fin 4) (s : Fin 256) :
    weights W (ix2 b s) = colMean (fun r s => W (ix3 b r s)) s := by
  unfold weights colMean
  pointwise

theorem dists_apply (X : FVec Ideal S4x128x256 .f32) (b : Fin 4) (i j : Fin 256) :
    dists X (ix3 b i j) = dist (fun f s => X (ix3 b f s)) i j := by
  unfold dists dist
  pointwise
  rfl

/-- A place between 0 and 255 is not negative as a word. -/
theorem not_negative (p : Fin 256) : IntOp.cmpi .slt (BitVec.ofNat 32 p.val) 0#32 = 0#1 := by
  revert p; decide

/-- A place between 0 and 255 is inside, as a word. -/
theorem word_inside (p : Fin 256) :
    IntOp.andi (IntOp.cmpi .sge (BitVec.ofNat 32 p.val) 0#32) (IntOp.cmpi .sle (BitVec.ofNat 32 p.val) 255#32) = 1#1 := by
  revert p; decide

theorem wrapped_apply (I : Words S4x1x16) (b : Fin 4) (c : Fin 16) (p : Fin 256) (h : I (ix3 b 0 c) = BitVec.ofNat 32 p.val) :
    wrapped I (ix3 b c 0) = BitVec.ofNat 32 p.val := by
  unfold wrapped
  pointwise
  rw [h, not_negative]
  rfl

theorem inside_apply (J : Words S4x16x1) (b : Fin 4) (c : Fin 16) (p : Fin 256) (h : J (ix3 b c 0) = BitVec.ofNat 32 p.val) :
    inside J (ix2 b c) = 1#1 := by
  unfold inside
  pointwise
  rw [show (Finset.univ : Finset (Fin 1)) = {0} from rfl, Finset.fold_singleton, h, word_inside]
  rfl

/-- The batched reading of one column per cluster. -/
theorem gather_columns (D : FVec Ideal S4x256x256 .f32) (J : Words S4x16x1) (b : Fin 4) (i : Fin 256) (c : Fin 16)
    (p : Fin 256) (h : J (ix3 b c 0) = BitVec.ofNat 32 p.val) :
    Host.gather gather_S4x256x256_S4x16x1_S4x256x16_1_2_0_0_2_2_12561 D J (ix3 b i c) = D (ix3 b i p) := by
  unfold Host.gather
  congr 1
  funext a
  apply Fin.ext
  match a with
  | ⟨0, _⟩ => show 0 + b.val + 0 = b.val; omega
  | ⟨1, _⟩ => show 0 + 0 + i.val = i.val; omega
  | ⟨2, _⟩ =>
    have e : gather_S4x256x256_S4x16x1_S4x256x16_1_2_0_0_2_2_12561.siIdx (ix3 b i c) ⟨0, by decide⟩ = ix3 b c 0 := by
      funext a
      match a with
      | ⟨0, _⟩ => rfl
      | ⟨1, _⟩ => rfl
      | ⟨2, _⟩ => rfl
    show min (J (gather_S4x256x256_S4x16x1_S4x256x16_1_2_0_0_2_2_12561.siIdx (ix3 b i c) ⟨0, by decide⟩)).toInt.toNat 255 + 0 + 0 = p.val
    rw [e, h, toInt_word p.val (by omega)]
    have := p.isLt
    simp only [Int.toNat_natCast]
    omega

theorem columns_apply (D : FVec Ideal S4x256x256 .f32) (I : Words S4x1x16) (b : Fin 4) (i : Fin 256) (c : Fin 16)
    (p : Fin 256) (h : I (ix3 b 0 c) = BitVec.ofNat 32 p.val) :
    columns D I (ix3 b i c) = D (ix3 b i p) := by
  unfold columns
  pointwise
  rw [inside_apply _ b c p (wrapped_apply I b c p h), gather_columns D _ b i c p (wrapped_apply I b c p h)]
  rfl

theorem table_apply (A : Words S4x256) (b : Fin 4) (i : Fin 256) (c k : Fin 16) (h : A (ix2 b i) = BitVec.ofNat 32 k.val) :
    table A (ix3 b i c) = if k = c then 1 else 0 := by
  unfold table
  pointwise
  rw [h]
  show (((IntOp.cmpi .eq (BitVec.ofNat 32 k.val) (BitVec.ofNat 32 c.val)).toNat : ℝ) : EReal) = _
  by_cases hk : k = c
  · subst hk
    simp [IntOp.cmpi]
  · have := mt (word_inj (a := k.val) (b := c.val) (by omega) (by omega)).mp (fun e => hk (Fin.ext e))
    simp [IntOp.cmpi, hk, beq_eq_false_iff_ne.mpr this]

theorem costs_apply (D : FVec Ideal S4x256x256 .f32) (V : FVec Ideal S4x256 .f32) (T : FVec Ideal S4x256x16 .f32)
    (b : Fin 4) (a : Fin 256 → Fin 16) (hT : ∀ i c, T (ix3 b i c) = if a i = c then 1 else 0) (i : Fin 256) (c : Fin 16) :
    costs D V T (ix3 b i c)
      = if a i = c then ∑ j, D (ix3 b i j) * (if a j = c then V (ix2 b j) else 0) else ⊤ := by
  unfold costs
  pointwise [dot_S4x256x256_S4x256x16_S4x256x16_2_1_1_2_0_0]
  simp only [hT, ofBits_inf]
  by_cases h : a i = c
  · simp [h, mul_ite]
  · simp [h]

theorem wrappedAll_apply (I : Words S4x128x16) (b : Fin 4) (f : Fin 128) (c : Fin 16) (p : Fin 256)
    (h : I (ix3 b f c) = BitVec.ofNat 32 p.val) : wrappedAll I (ix4 b f c 0) = BitVec.ofNat 32 p.val := by
  unfold wrappedAll
  pointwise
  rw [h, not_negative]
  rfl

theorem insideAll_apply (J : Words S4x128x16x1) (b : Fin 4) (f : Fin 128) (c : Fin 16) (p : Fin 256)
    (h : J (ix4 b f c 0) = BitVec.ofNat 32 p.val) : insideAll J (ix3 b f c) = 1#1 := by
  unfold insideAll
  pointwise
  rw [show (Finset.univ : Finset (Fin 1)) = {0} from rfl, Finset.fold_singleton, h, word_inside]
  rfl

/-- The reading of one point per batch, feature and cluster. -/
theorem gather_points (X : FVec Ideal S4x128x256 .f32) (J : Words S4x128x16x1) (b : Fin 4) (f : Fin 128) (c : Fin 16)
    (p : Fin 256) (h : J (ix4 b f c 0) = BitVec.ofNat 32 p.val) :
    Host.gather gather_S4x128x256_S4x128x16x1_S4x128x16_n_2_01_01_2_3_111 X J (ix3 b f c) = X (ix3 b f p) := by
  unfold Host.gather
  congr 1
  funext a
  apply Fin.ext
  match a with
  | ⟨0, _⟩ => show 0 + b.val + 0 = b.val; omega
  | ⟨1, _⟩ => show 0 + f.val + 0 = f.val; omega
  | ⟨2, _⟩ =>
    have e : gather_S4x128x256_S4x128x16x1_S4x128x16_n_2_01_01_2_3_111.siIdx (ix3 b f c) ⟨0, by decide⟩ = ix4 b f c 0 := by
      funext a
      match a with
      | ⟨0, _⟩ => rfl
      | ⟨1, _⟩ => rfl
      | ⟨2, _⟩ => rfl
      | ⟨3, _⟩ => rfl
    show min (J (gather_S4x128x256_S4x128x16x1_S4x128x16_n_2_01_01_2_3_111.siIdx (ix3 b f c) ⟨0, by decide⟩)).toInt.toNat 255 + 0 + 0 = p.val
    rw [e, h, toInt_word p.val (by omega)]
    have := p.isLt
    simp only [Int.toNat_natCast]
    omega

theorem picked_apply (X : FVec Ideal S4x128x256 .f32) (J : Words S4x128x16) (b : Fin 4) (f : Fin 128) (c : Fin 16)
    (p : Fin 256) (h : J (ix3 b f c) = BitVec.ofNat 32 p.val) : picked X J (ix3 b f c) = X (ix3 b f p) := by
  unfold picked
  pointwise
  rw [insideAll_apply _ b f c p (wrappedAll_apply J b f c p h), gather_points X _ b f c p (wrappedAll_apply J b f c p h)]
  rfl

/-- The printed comparison of two pairs of value and index is `keepLess`. -/
theorem reducer_eq : reducer_argmin_f32_i32 (F := Ideal) = keepLess := by
  funext a b
  unfold reducer_argmin_f32_i32 keepLess
  obtain ⟨a1, a2⟩ := a
  obtain ⟨b1, b2⟩ := b
  simp only [Ideal.cmpf_def, Ideal.cmp]
  by_cases h1 : a1 < b1
  · simp [h1, h1.ne, Scalar.select, IntOp.ori, IntOp.andi]
  · by_cases h2 : a1 = b1
    · subst h2
      by_cases h3 : a2.toInt < b2.toInt
      · simp [h3, Scalar.select, IntOp.ori, IntOp.andi, IntOp.cmpi, BitVec.slt]
      · simp [h3, Scalar.select, IntOp.ori, IntOp.andi, IntOp.cmpi, BitVec.slt]
    · simp [h1, h2, Scalar.select, IntOp.ori, IntOp.andi]

/-- The pairs that an arg-reduction folds over at a place: those of the indices that drop to it. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ z, h.drop z = j ∧ q = (x z, y z) := by
  unfold Host.argReduceFiber
  simp only [List.mem_map, List.mem_filter, List.mem_finRange, true_and, decide_eq_true_eq]
  constructor
  · rintro ⟨n, hn, rfl⟩
    exact ⟨_, hn, rfl⟩
  · rintro ⟨z, hz, rfl⟩
    exact ⟨s.rowMajor z, by simpa using hz, by simp⟩

/-- The place of the first least value along an axis, as the host finds it. -/
theorem place_of_least {s t : Shape} {axes : List (Fin s.rank)} {n : ℕ} [NeZero n] (hn : n < 1024) (x : s.Idx → EReal)
    (y : s.Idx → BitVec 32) (h : s.ReducesTo axes t) (j : t.Idx) (e : Fin n → s.Idx) (he : ∀ z, h.drop z = j ↔ ∃ k, z = e k)
    (hy : ∀ k, y (e k) = BitVec.ofNat 32 k.val) :
    (Host.argReduce (F := Ideal) (φ := .f32) reducer_argmin_f32_i32 x y (constant S_ .f32 0x7F800000#32) (constantI S_ 32 0#32) h h_S_ j).2
      = BitVec.ofNat 32 (firstMin fun k => x (e k)).val := by
  rw [Ideal.argReduce_eq_reduce2, Host.reduce2_eq_foldl_fiber, reducer_eq]
  rw [show (constant (F := Ideal) S_ .f32 0x7F800000#32 (Shape.Idx.first h_S_), constantI S_ 32 0#32 (Shape.Idx.first h_S_))
    = ((⊤ : EReal), 0#32) from Prod.ext ofBits_inf rfl]
  refine argmin_eq (fun k => x (e k)) hn _ fun q => ?_
  rw [mem_fiber]
  constructor
  · rintro ⟨z, hz, rfl⟩
    obtain ⟨k, rfl⟩ := (he z).mp hz
    exact ⟨k, by rw [hy]⟩
  · rintro ⟨k, rfl⟩
    exact ⟨e k, (he _).mpr ⟨k, rfl⟩, by rw [hy]⟩

theorem nearest_apply (N : FVec Ideal S4x256x16 .f32) (b : Fin 4) (i : Fin 256) :
    nearest N (ix2 b i) = BitVec.ofNat 32 (firstMin fun c : Fin 16 => N (ix3 b i c)).val := by
  unfold nearest
  refine place_of_least (by decide) N _ _ _ (fun c : Fin 16 => ix3 b i c) (fun z => ?_) fun k => rfl
  obtain ⟨z0, z1, z2, rfl⟩ : ∃ z0 z1 z2, z = ix3 z0 z1 z2 := ⟨_, _, _, eq_ix3 (n0 := 4) (n1 := 256) (n2 := 16) z⟩
  constructor
  · intro h
    have h0 : z0 = b := Fin.ext (congrArg Fin.val (congrFun h 0))
    have h1 : z1 = i := Fin.ext (congrArg Fin.val (congrFun h 1))
    exact ⟨z2, by rw [h0, h1]⟩
  · rintro ⟨k, hk⟩
    rw [hk]
    funext a
    match a with
    | ⟨0, _⟩ => rfl
    | ⟨1, _⟩ => rfl

theorem cheapest_apply (C : FVec Ideal S4x256x16 .f32) (b : Fin 4) (c : Fin 16) :
    cheapest C (ix3 b 0 c) = BitVec.ofNat 32 (firstMin fun i : Fin 256 => C (ix3 b i c)).val := by
  unfold cheapest
  pointwise
  refine place_of_least (by decide) C _ _ _ (fun i : Fin 256 => ix3 b i c) (fun z => ?_) fun k => rfl
  obtain ⟨z0, z1, z2, rfl⟩ : ∃ z0 z1 z2, z = ix3 z0 z1 z2 := ⟨_, _, _, eq_ix3 (n0 := 4) (n1 := 256) (n2 := 16) z⟩
  constructor
  · intro h
    have h0 : z0 = b := Fin.ext (congrArg Fin.val (congrFun h 0))
    have h1 : z2 = c := Fin.ext (congrArg Fin.val (congrFun h 1))
    exact ⟨z1, by rw [h0, h1]⟩
  · rintro ⟨k, hk⟩
    rw [hk]
    funext a
    match a with
    | ⟨0, _⟩ => rfl
    | ⟨1, _⟩ => rfl

/-- The places of the greatest values of a row, as the host sorts them. -/
theorem places_of_greatest {α : Type} (gt : α → α → BitVec 1) (x : S4x256.Idx → α) (b : Fin 4) (c : Fin 16) :
    (Host.topK S4x16 1 gt x sliceFits_S4x256_S4x16).2 (ix2 b c)
      = BitVec.ofNat 32 (sortedFrom (fun k k' : Fin 256 => gt (x (ix2 b k)) (x (ix2 b k')) == 1#1) (c.castLE (by omega))).val := by
  have e : ∀ (d k : Fin 256), Shape.Idx.along (s := S4x256) (ix2 b d) 1 k = ix2 b k := by
    intro d k
    funext a
    match a with
    | ⟨0, _⟩ => rfl
    | ⟨1, _⟩ => rfl
  unfold Host.topK Host.sort2
  pointwise
  simp only [e]
  rfl

theorem starts_apply (V : FVec Ideal S4x256 .f32) (b : Fin 4) (c : Fin 16) :
    starts V (ix3 b 0 c) = BitVec.ofNat 32 (start (fun s => V (ix2 b s)) c).val := by
  unfold starts
  pointwise
  rw [places_of_greatest, sorted_start fun s => V (ix2 b s)]
  intro k k'
  rw [Ideal.cmpfTotal_def]
  show (BitVec.ofBool (decide (V (ix2 b k') < V (ix2 b k))) == 1#1) = _
  by_cases h : V (ix2 b k') < V (ix2 b k) <;> simp [h]

/-- One round of the reference from the medoids `ctr` of a batch. -/
theorem round_apply (D : FVec Ideal S4x256x256 .f32) (V : FVec Ideal S4x256 .f32) (I : Words S4x1x16) (b : Fin 4)
    (ctr : Fin 16 → Fin 256) (hI : ∀ c, I (ix3 b 0 c) = BitVec.ofNat 32 (ctr c).val) (c : Fin 16) :
    round D V I (ix3 b 0 c)
      = BitVec.ofNat 32 (next (fun i j => D (ix3 b i j)) (fun s => V (ix2 b s)) ctr c).val := by
  have hT : ∀ i c, table (nearest (columns D I)) (ix3 b i c)
      = if assign (fun i j => D (ix3 b i j)) ctr i = c then 1 else 0 := by
    intro i c
    refine table_apply _ b i c _ ?_
    rw [nearest_apply]
    simp only [columns_apply D I b i _ _ (hI _)]
    rfl
  unfold round
  rw [cheapest_apply]
  simp only [costs_apply D V _ b _ hT]
  rfl

/-- The last medoids of the reference. -/
theorem lasts_apply (X : FVec Ideal S4x128x256 .f32) (W : FVec Ideal S4x256x256 .f32) (b : Fin 4) (c : Fin 16) :
    lasts X W (ix3 b 0 c)
      = BitVec.ofNat 32 (medoids (dist fun f s => X (ix3 b f s)) (colMean fun r s => W (ix3 b r s)) c).val := by
  have hD : (fun i j => dists X (ix3 b i j)) = dist fun f s => X (ix3 b f s) := by
    funext i j; exact dists_apply X b i j
  have hV : (fun s => weights W (ix2 b s)) = colMean fun r s => W (ix3 b r s) := by
    funext s; exact weights_apply W b s
  unfold lasts
  rw [round_apply _ _ _ b _ (fun c => round_apply _ _ _ b _ (fun c => round_apply _ _ _ b _ (fun c => starts_apply _ b c) c) c),
    hD, hV]
  rfl

/-- The reference's result at an index: the chosen column's feature. -/
theorem out_apply (X : FVec Ideal S4x128x256 .f32) (W : FVec Ideal S4x256x256 .f32) (b : Fin 4) (f : Fin 128) (c : Fin 16) :
    out X W (ix3 b f c) = chosen (fun f s => X (ix3 b f s)) (fun r s => W (ix3 b r s)) f c := by
  unfold out
  rw [picked_apply X _ b f c (medoids (dist fun f s => X (ix3 b f s)) (colMean fun r s => W (ix3 b r s)) c)]
  · rfl
  · pointwise
    exact lasts_apply X W b c

end Ref
end Cert.KMed
end
-- ==== Proof.RefRun.lean ====
module

public import proofs.«01_k».proof.Proof.RefSteps
public import Idealize.ShloMosaic.Lib.StableHlo.RunHlo
public import Idealize.ShloMosaic.Lib.Pipeline.Frame
public import Idealize.ShloMosaic.Lib.Claim

/-!
  The run of the reference: its operations in order, cut at the end of the preparation and of every round, each piece
  read as the step it computes.
-/

@[expose] public section
set_option maxRecDepth 65536
noncomputable section
namespace Cert.KMed
namespace Ref
open Idealize.ShloMosaic Idealize.ShloMosaic.TcCoe Idealize.ShloMosaic.Tactic Idealize.SL.Sem
open Idealize.ShloMosaic.StableHlo
open Cert.ReferenceIdeal Cert.ReferenceIdeal.Gen

/-- The reference's operations, in order, with the fact that its program is their sequence. -/
def listed : { l : List (HloOp τ sig (Elt Ideal)) // ∀ d, IsSeq (main (F := Ideal) d) l } := by
  apply Subtype.mk
  hlo_seq

/-- The operations up to the first medoids. -/
def ops0 : List (HloOp τ sig (Elt Ideal)) := listed.1.take 16
/-- The operations of the first round. -/
def ops1 : List (HloOp τ sig (Elt Ideal)) := (listed.1.drop 16).take 51
/-- The operations of the second round. -/
def ops2 : List (HloOp τ sig (Elt Ideal)) := (listed.1.drop 67).take 51
/-- The operations of the third round. -/
def ops3 : List (HloOp τ sig (Elt Ideal)) := (listed.1.drop 118).take 51
/-- The operations after the rounds. -/
def ops4 : List (HloOp τ sig (Elt Ideal)) := listed.1.drop 169

theorem listed_cut : listed.1 = ops0 ++ (ops1 ++ (ops2 ++ (ops3 ++ ops4))) := rfl

theorem prep_weights (V : Valuation τ sig (Elt Ideal)) :
    after ops0 V (Proc.devRef .tc main_v2) = weights (V (Proc.devRef .tc main_arg1)) := by
  simp only [ops0, listed, List.take_succ_cons, List.take_zero]
  after_results_simp
  rfl

theorem prep_dists (V : Valuation τ sig (Elt Ideal)) :
    after ops0 V (Proc.devRef .tc main_v9) = dists (V (Proc.devRef .tc main_arg0)) := by
  simp only [ops0, listed, List.take_succ_cons, List.take_zero]
  after_results_simp
  rfl

theorem prep_starts (V : Valuation τ sig (Elt Ideal)) :
    after ops0 V (Proc.devRef .tc main_v10) = starts (weights (V (Proc.devRef .tc main_arg1))) := by
  simp only [ops0, listed, List.take_succ_cons, List.take_zero]
  after_results_simp
  rfl

set_option maxHeartbeats 2000000 in
theorem round1_medoids (V : Valuation τ sig (Elt Ideal)) :
    after ops1 V (Proc.devRef .tc main_v22)
      = round (V (Proc.devRef .tc main_v9)) (V (Proc.devRef .tc main_v2)) (V (Proc.devRef .tc main_v10)) := by
  simp only [ops1, listed, List.take_succ_cons, List.take_zero, List.drop_succ_cons, List.drop_zero]
  after_results_simp
  rfl

set_option maxHeartbeats 2000000 in
theorem round2_medoids (V : Valuation τ sig (Elt Ideal)) :
    after ops2 V (Proc.devRef .tc main_v34)
      = round (V (Proc.devRef .tc main_v9)) (V (Proc.devRef .tc main_v2)) (V (Proc.devRef .tc main_v22)) := by
  simp only [ops2, listed, List.take_succ_cons, List.take_zero, List.drop_succ_cons, List.drop_zero]
  after_results_simp
  rfl

set_option maxHeartbeats 2000000 in
theorem round3_medoids (V : Valuation τ sig (Elt Ideal)) :
    after ops3 V (Proc.devRef .tc main_v46)
      = round (V (Proc.devRef .tc main_v9)) (V (Proc.devRef .tc main_v2)) (V (Proc.devRef .tc main_v34)) := by
  simp only [ops3, listed, List.take_succ_cons, List.take_zero, List.drop_succ_cons, List.drop_zero]
  after_results_simp
  rfl

theorem last_reading (V : Valuation τ sig (Elt Ideal)) :
    after ops4 V (Proc.devRef .tc main_v48)
      = picked (V (Proc.devRef .tc main_arg0))
          (broadcastInDim S4x128x16 ![0, 1, 2] bcast_S4x1x16_S4x128x16_0_1_2 (V (Proc.devRef .tc main_v46))) := by
  simp only [ops4, listed, List.drop_succ_cons, List.drop_zero]
  after_results_simp
  rfl

/-- No operation writes an argument. -/
theorem prep_keeps (V : Valuation τ sig (Elt Ideal)) :
    after ops0 V (Proc.devRef .tc main_arg0) = V (Proc.devRef .tc main_arg0)
    ∧ after ops0 V (Proc.devRef .tc main_arg1) = V (Proc.devRef .tc main_arg1) := by
  simp only [ops0, listed, List.take_succ_cons, List.take_zero]
  constructor <;> after_results_simp

/-- What a piece of the run leaves alone: the arguments, the distances and the weights. -/
def Keeps (l : List (HloOp τ sig (Elt Ideal))) : Prop :=
  ∀ V : Valuation τ sig (Elt Ideal),
    after l V (Proc.devRef .tc main_arg0) = V (Proc.devRef .tc main_arg0)
    ∧ after l V (Proc.devRef .tc main_arg1) = V (Proc.devRef .tc main_arg1)
    ∧ after l V (Proc.devRef .tc main_v9) = V (Proc.devRef .tc main_v9)
    ∧ after l V (Proc.devRef .tc main_v2) = V (Proc.devRef .tc main_v2)

theorem round1_keeps : Keeps ops1 := by
  intro V
  simp only [ops1, listed, List.take_succ_cons, List.take_zero, List.drop_succ_cons, List.drop_zero]
  and_intros <;> after_results_simp

theorem round2_keeps : Keeps ops2 := by
  intro V
  simp only [ops2, listed, List.take_succ_cons, List.take_zero, List.drop_succ_cons, List.drop_zero]
  and_intros <;> after_results_simp

theorem round3_keeps : Keeps ops3 := by
  intro V
  simp only [ops3, listed, List.take_succ_cons, List.take_zero, List.drop_succ_cons, List.drop_zero]
  and_intros <;> after_results_simp

theorem last_keeps : Keeps ops4 := by
  intro V
  simp only [ops4, listed, List.drop_succ_cons, List.drop_zero]
  and_intros <;> after_results_simp

/-- The whole run's result buffer, read from the arguments. -/
theorem all_result (V : Valuation τ sig (Elt Ideal)) :
    after listed.1 V (Proc.devRef .tc main_v48)
      = out (V (Proc.devRef .tc main_arg0)) (V (Proc.devRef .tc main_arg1)) := by
  rw [listed_cut]
  simp only [after_append]
  rw [last_reading, round3_medoids, (round3_keeps _).1, (round2_keeps _).1, (round1_keeps _).1, (prep_keeps _).1,
    (round2_keeps _).2.2.1, (round2_keeps _).2.2.2, (round1_keeps _).2.2.1, (round1_keeps _).2.2.2, round2_medoids,
    (round1_keeps _).2.2.1, (round1_keeps _).2.2.2, round1_medoids, prep_dists, prep_weights, prep_starts]
  rfl

/-- The whole run leaves the arguments alone. -/
theorem all_keeps (V : Valuation τ sig (Elt Ideal)) :
    after listed.1 V (Proc.devRef .tc main_arg0) = V (Proc.devRef .tc main_arg0)
    ∧ after listed.1 V (Proc.devRef .tc main_arg1) = V (Proc.devRef .tc main_arg1) := by
  rw [listed_cut]
  simp only [after_append]
  rw [(last_keeps _).1, (round3_keeps _).1, (round2_keeps _).1, (round1_keeps _).1, (prep_keeps _).1,
    (last_keeps _).2.1, (round3_keeps _).2.1, (round2_keeps _).2.1, (round1_keeps _).2.1, (prep_keeps _).2]
  exact ⟨rfl, rfl⟩

variable (m : (ℓ : Loc nD τ sig) → Buf (Elt Ideal) ℓ) (ρ : Dev nD → PrngReg)

/-- The reference's run: every buffer ends holding what the operations leave in it. -/
theorem run : θ_run (defs (F := Ideal)) (onTc (τ := τ) (main (F := Ideal))) ⟨m, fun _ => 0, ρ⟩ (fun r =>
    ∀ (d : Dev nD) (b : Ref sig .tc),
      r.2.mem ((d.tc : Thread nD τ).loc b) = after listed.1 (launchContents m d) (Proc.devRef .tc b)) :=
  run_hlo _ _ listed.2 (by decide) (by decide) (by simp [listed])
    (by
      intro o h
      unfold listed at h
      repeat (cases h with | head => rfl | tail _ h => ?_)
      exact nomatch h) m ρ

/-- The reference ends holding its result and its arguments unchanged. -/
theorem run_out : θ_run (defs (F := Ideal)) (onTc (τ := τ) (main (F := Ideal))) ⟨m, fun _ => 0, ρ⟩ (fun r => ∀ c : Dev nD,
    r.2.mem ((c.tc : Thread nD τ).loc main_v48)
      = out (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  θ_run_mono (run m ρ) fun r h c =>
    ⟨(h c main_v48).trans (all_result _), (h c main_arg0).trans (all_keeps _).1, (h c main_arg1).trans (all_keeps _).2⟩

/-- The frame of the reference: it terminates, its arguments unchanged, every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_out m ρ) fun r h => ⟨fun c => (h c).2, sem_eq_zero_of_no_sems (by decide) r.2⟩

end Ref
end Cert.KMed
end
-- ==== Proof.Equation.lean ====
module

public import proofs.«01_k».proof.Proof.KFrame
public import proofs.«01_k».proof.Proof.RefRead
public import proofs.«01_k».proof.Proof.RefRun
public import proofs.«01_k».proof.Proof.Gen.Pre_x_finite

/-!
  The kernel's result array is the reference's, when every feature is finite: both hold, at feature `f` and cluster `c`,
  the feature of the column that is the cluster's last medoid, and for finite features the kernel's distance
  (two sums less twice the sum of the minima) is the reference's sum of absolute differences.
-/

@[expose] public section
set_option maxRecDepth 16384
noncomputable section
namespace Cert.KMed
open Idealize.ShloMosaic Idealize.ShloMosaic.TcCoe Idealize.ShloMosaic.Tactic
open Cert.KernelIdeal Cert.KernelIdeal.Gen

/-- The precondition at an index: the feature is neither infinity. -/
theorem finite_of_pre (X : FVec Ideal Cert.Pre_x_finite.S4x128x256 .f32) (W : FVec Ideal Cert.Pre_x_finite.S4x256x256 .f32)
    (h : Cert.Pre_x_finite.fn (F := Ideal) X W = fun _ => 1#1) (b : Fin 4) (f : Fin 128) (s : Fin 256) :
    X (ix3 b f s) ≠ ⊤ ∧ X (ix3 b f s) ≠ ⊥ := by
  have h1 := congrFun h (ix3 b f s)
  unfold Cert.Pre_x_finite.fn at h1
  have h2 : Ideal.cmp .olt (max (X (ix3 b f s)) (-(X (ix3 b f s)))) (Ideal.ofBits .f32 2139095040#32) = 1#1 := h1
  rw [ofBits_inf] at h2
  have h3 : max (X (ix3 b f s)) (-(X (ix3 b f s))) < ⊤ := by
    by_contra hn
    simp [Ideal.cmp, hn] at h2
  rw [max_lt_iff] at h3
  refine ⟨h3.1.ne, fun hb => ?_⟩
  rw [hb] at h3
  simp at h3

/-- Both programs' results, as functions of the arguments, are the same array when the features are finite. -/
theorem same_result (X : FVec Ideal S4x128x256 .f32) (W : FVec Ideal S4x256x256 .f32)
    (hX : ∀ b f s, X (ix3 b f s) ≠ ⊤ ∧ X (ix3 b f s) ≠ ⊥) : kernelOut X W = Ref.out X W := by
  funext y
  obtain ⟨b, f, c, rfl⟩ : ∃ (b : Fin 4) (f : Fin 128) (c : Fin 16), y = ix3 b f c := ⟨y 0, y 1, y 2, eq_ix3 y⟩
  have hd : kdist (blockX X b) = dist fun f s => X (ix3 b f s) := by
    funext i j
    exact dist_eq (fun f s => X (ix3 b f s)) (hX b) i j
  refine Eq.trans ?_ (Ref.out_apply X W b f c).symm
  show X (ix3 b f (medoids (kdist (blockX X b)) (colMean fun r s => W (ix3 b r s)) c)) = _
  rw [hd]
  rfl

end Cert.KMed
end
-- ==== Proof.lean ====
/-
  The claims about one k-medoids kernel and its reference.

  `Proof/DistTrips` and `Proof/Clustering` hold the mathematics (distances, medoids, one round of the clustering);
  `Proof/KRound`, `Proof/KScratch` and `Proof/KRun` read one run of the kernel's body; `Proof/KFrame` launches it over the
  grid; `Proof/KernelFrame` is the frame of the kernel on float words; `Proof/RefSteps`, `Proof/RefRun` and `Proof/RefRead` do the same for the reference; `Proof/Equation` equates the two.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.Pre_x_finite
public import proofs.«01_k».proof.Proof.Equation
public import Idealize.ShloMosaic.Adequacy
public import Idealize.ShloMosaic.Init

@[expose] public section

noncomputable section

namespace Cert.Proof

open Idealize.ShloMosaic Idealize.SL.Sem

/-- The idealized kernel and the reference leave the same array, from the same arguments, when the features are finite. -/
theorem algebraic : Cert.algebraic_KernelIdeal_ReferenceIdeal_pre_x_finite (hKernelIdeal := Cert.KernelIdeal.Gen.facts)
    (hReferenceIdeal := Cert.ReferenceIdeal.Gen.facts) (hPre_x_finite := Cert.Pre_x_finite.Gen.facts) := by
  intro m g m' g' hpre hagree
  refine ⟨fun c => Cert.KMed.kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact θ_run_mono (θ_run_and (Cert.KMed.kernel_run m g) (Cert.KMed.kernel_frame m g))
      fun r h c => ⟨h.1 c, h.2.1 c⟩
  · refine θ_run_mono (Cert.KMed.Ref.run_out m' g') fun r h c => ⟨(h c).1.trans ?_, (h c).2⟩
    rw [(hagree c).1, (hagree c).2]
    exact (Cert.KMed.same_result _ _ fun b f s => Cert.KMed.finite_of_pre _ _ (hpre c) b f s).symm

/-- All five claims: the three frames, that the idealized kernel is the kernel, and the equality of the results. -/
theorem claim : Cert.Claim :=
  ⟨Cert.Kernel.Gen.facts, Cert.KernelIdeal.Gen.facts, Cert.ReferenceIdeal.Gen.facts, Cert.Pre_x_finite.Gen.facts,
    fun m ρ _ => Cert.KMed.Plain.frame m ρ,
    fun m ρ _ => Cert.KMed.kernel_frame m ρ,
    fun m ρ _ => Cert.KMed.kernel_frame m ρ,
    fun m ρ _ => Cert.KMed.Ref.frame m ρ,
    fun m ρ _ => Cert.KMed.Ref.frame m ρ,
    trivial,
    algebraic⟩

end Cert.Proof

end
